-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![32768, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x128 : Shape := ⟨2, ![4096, 128]⟩
abbrev S_ : Shape := ⟨0, ![]⟩
abbrev S6 : Shape := ⟨1, ![6]⟩
abbrev S4096x1 : Shape := ⟨2, ![4096, 1]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => true
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 6 6 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨1, ![8], ![false]⟩

@[reducible] def k0_t1_loop : Scf.Loop 32 :=
  let c0_i32_4 : BitVec 32 := 0#32
  let c12_i32 : BitVec 32 := 12#32
  let v10 : BitVec 32 := Scalar.addi c0_i32_4 c12_i32
  let c1_i32_5 : BitVec 32 := 1#32
  ⟨c0_i32_4, v10, c1_i32_5⟩
@[reducible] def k0_t2_loop (k0_t1 : Fin k0_t1_loop.trips) : Scf.Loop 32 :=
  let c0_i32_170 : BitVec 32 := 0#32
  let c0_i32_4 : BitVec 32 := 0#32
  let c1_i32_5 : BitVec 32 := 1#32
  let arg8 : BitVec 32 := Scf.iv c0_i32_4 c1_i32_5 k0_t1
  let c1_i32_169 : BitVec 32 := 1#32
  let v173 : BitVec 32 := Scalar.addi arg8 c1_i32_169
  let v174 : BitVec 32 := Scalar.subi v173 c0_i32_170
  let c1_i32_172 : BitVec 32 := 1#32
  let v176 : BitVec 32 := Scalar.divsi v174 c1_i32_172
  let v177 : BitVec 32 := Scalar.muli v176 c1_i32_172
  let v178 : BitVec 32 := Scalar.addi c0_i32_170 v177
  let c1_i32_173 : BitVec 32 := 1#32
  ⟨c0_i32_170, v178, c1_i32_173⟩
@[reducible] def k0_t3_loop (k0_t1 : Fin k0_t1_loop.trips) : Scf.Loop 32 :=
  let c0_i32_170 : BitVec 32 := 0#32
  let c0_i32_4 : BitVec 32 := 0#32
  let c1_i32_5 : BitVec 32 := 1#32
  let arg8 : BitVec 32 := Scf.iv c0_i32_4 c1_i32_5 k0_t1
  let c1_i32_169 : BitVec 32 := 1#32
  let v173 : BitVec 32 := Scalar.addi arg8 c1_i32_169
  let v174 : BitVec 32 := Scalar.subi v173 c0_i32_170
  let c1_i32_172 : BitVec 32 := 1#32
  let v176 : BitVec 32 := Scalar.divsi v174 c1_i32_172
  let v177 : BitVec 32 := Scalar.muli v176 c1_i32_172
  let v178 : BitVec 32 := Scalar.addi c0_i32_170 v177
  let v175 : BitVec 32 := Scalar.addi c0_i32_170 v174
  let c1_i32_174 : BitVec 32 := 1#32
  ⟨v178, v175, c1_i32_174⟩
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v11 : BitVec 32 := Scalar.xori v2 c1_i32_7
  let c1_i32_10 : BitVec 32 := 1#32
  let v14 : BitVec 32 := Scalar.muli v11 c1_i32_10
  let v15 : BitVec 32 := Scalar.addi c0_i32_11 v14
  v15.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v11 : BitVec 32 := Scalar.xori v2 c1_i32_7
  let c1_i32_14 : BitVec 32 := 1#32
  let v18 : BitVec 32 := Scalar.muli v11 c1_i32_14
  let v19 : BitVec 32 := Scalar.addi c0_i32_15 v18
  v19.toNat
@[reducible] def k0_t4_loop : Scf.Loop 32 :=
  let c0_i32_31 : BitVec 32 := 0#32
  let c12_i32_32 : BitVec 32 := 12#32
  let v38 : BitVec 32 := Scalar.addi c0_i32_31 c12_i32_32
  let c1_i32_33 : BitVec 32 := 1#32
  ⟨c0_i32_31, v38, c1_i32_33⟩
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v39 : BitVec 32 := Scalar.xori v2 c2_i32_35
  let c1_i32_38 : BitVec 32 := 1#32
  let v42 : BitVec 32 := Scalar.muli v39 c1_i32_38
  let v43 : BitVec 32 := Scalar.addi c0_i32_39 v42
  v43.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v39 : BitVec 32 := Scalar.xori v2 c2_i32_35
  let c1_i32_43 : BitVec 32 := 1#32
  let v46 : BitVec 32 := Scalar.muli v39 c1_i32_43
  let v47 : BitVec 32 := Scalar.addi c0_i32_44 v46
  v47.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v64 : BitVec 32 := Scalar.xori v2 c1_i32_58
  let c1_i32_61 : BitVec 32 := 1#32
  let v67 : BitVec 32 := Scalar.muli v64 c1_i32_61
  let v68 : BitVec 32 := Scalar.addi c0_i32_62 v67
  v68.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v64 : BitVec 32 := Scalar.xori v2 c1_i32_58
  let c1_i32_66 : BitVec 32 := 1#32
  let v71 : BitVec 32 := Scalar.muli v64 c1_i32_66
  let v72 : BitVec 32 := Scalar.addi c0_i32_67 v71
  v72.toNat
@[reducible] def k0_t5_loop : Scf.Loop 32 :=
  let c0_i32_84 : BitVec 32 := 0#32
  let c12_i32_85 : BitVec 32 := 12#32
  let v91 : BitVec 32 := Scalar.addi c0_i32_84 c12_i32_85
  let c1_i32_86 : BitVec 32 := 1#32
  ⟨c0_i32_84, v91, c1_i32_86⟩
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v92 : BitVec 32 := Scalar.xori v2 c4_i32_88
  let c1_i32_90 : BitVec 32 := 1#32
  let v95 : BitVec 32 := Scalar.muli v92 c1_i32_90
  let v96 : BitVec 32 := Scalar.addi c0_i32_91 v95
  v96.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v92 : BitVec 32 := Scalar.xori v2 c4_i32_88
  let c1_i32_95 : BitVec 32 := 1#32
  let v99 : BitVec 32 := Scalar.muli v92 c1_i32_95
  let v100 : BitVec 32 := Scalar.addi c0_i32_96 v99
  v100.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_111 : BitVec 32 := 2#32
  let v117 : BitVec 32 := Scalar.xori v2 c2_i32_111
  let c1_i32_114 : BitVec 32 := 1#32
  let v120 : BitVec 32 := Scalar.muli v117 c1_i32_114
  let v121 : BitVec 32 := Scalar.addi c0_i32_115 v120
  v121.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_111 : BitVec 32 := 2#32
  let v117 : BitVec 32 := Scalar.xori v2 c2_i32_111
  let c1_i32_119 : BitVec 32 := 1#32
  let v124 : BitVec 32 := Scalar.muli v117 c1_i32_119
  let v125 : BitVec 32 := Scalar.addi c0_i32_120 v124
  v125.toNat
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v142 : BitVec 32 := Scalar.xori v2 c1_i32_135
  let c1_i32_137 : BitVec 32 := 1#32
  let v145 : BitVec 32 := Scalar.muli v142 c1_i32_137
  let v146 : BitVec 32 := Scalar.addi c0_i32_138 v145
  v146.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v142 : BitVec 32 := Scalar.xori v2 c1_i32_135
  let c1_i32_142 : BitVec 32 := 1#32
  let v149 : BitVec 32 := Scalar.muli v142 c1_i32_142
  let v150 : BitVec 32 := Scalar.addi c0_i32_143 v149
  v150.toNat
@[reducible] def k0_t6_loop : Scf.Loop 32 :=
  let c0_i32_160 : BitVec 32 := 0#32
  let c12_i32_161 : BitVec 32 := 12#32
  let v169 : BitVec 32 := Scalar.addi c0_i32_160 c12_i32_161
  let c1_i32_162 : BitVec 32 := 1#32
  ⟨c0_i32_160, v169, c1_i32_162⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S32768x1024, .f32⟩
  | .hbm, ⟨3, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Contents.lean ====
/-
  What the buffers hold. The kernel keeps one block of 4096 rows and 128 columns in its working buffer. At a grid point it
  first sorts the block by itself, in two nested counted loops, and then exchanges the block with a partner device six
  times; after the exchanges with the nearest partner it merges the block by a third kind of counted loop. This module names
  these contents as functions of the blocks that the eight devices fetched: nothing here says what the numbers are, only
  which payload of the program is applied to which contents.
-/
module

public import proofs.«01_k».proof.Defs
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.TcCoe

variable {F : FTy → Type} [FloatOps F]

/-- One block of the array: what every buffer of the kernel holds. -/
abbrev Blk (F : FTy → Type) : Type := Vec F S4096x128 .bf16

/-! ## Counted loops as iterated functions -/

/-- The value after the first `k` trips of a loop of `n` trips whose trip `i` maps the value by `g i`. -/
def afterTrips {α : Type} {n : ℕ} (g : Fin n → α → α) : ℕ → α → α
  | 0, a => a
  | k + 1, a => if h : k < n then g ⟨k, h⟩ (afterTrips g k a) else afterTrips g k a

theorem afterTrips_succ {α : Type} {n : ℕ} (g : Fin n → α → α) (k : Fin n) (a : α) :
    afterTrips g (k.val + 1) a = g k (afterTrips g k.val a) := by
  rw [afterTrips, dif_pos k.isLt]

theorem afterTrips_zero {α : Type} {n : ℕ} (g : Fin n → α → α) (a : α) : afterTrips g 0 a = a := rfl

theorem afterTrips_none {α : Type} {n k : ℕ} (g : Fin n → α → α) (h : k = 0) (a : α) : afterTrips g k a = a := by
  subst h; rfl

/-! ## The devices' partners -/

/-- The bit of the device's position that exchange `s` works on: 1, 2, 1, 4, 2, 1. -/
def bitOf : ℕ → ℕ
  | 0 => 1 | 1 => 2 | 2 => 1 | 3 => 4 | 4 => 2 | _ => 1

theorem xor_bit_lt (s : ℕ) (c : Dev nD) : c.val ^^^ bitOf s < nD := by
  have h : ∀ c : Dev nD, c.val ^^^ 1 < nD ∧ c.val ^^^ 2 < nD ∧ c.val ^^^ 4 < nD := by decide
  obtain ⟨h1, h2, h4⟩ := h c
  unfold bitOf; split <;> assumption

/-- The partner of device `c` in exchange `s`: the device whose position differs in that bit. -/
def partner (s : ℕ) (c : Dev nD) : Dev nD := ⟨c.val ^^^ bitOf s, xor_bit_lt s c⟩

theorem partner_partner (s : ℕ) (c : Dev nD) : partner s (partner s c) = c := by
  apply Fin.ext
  show (c.val ^^^ bitOf s) ^^^ bitOf s = c.val
  rw [Nat.xor_assoc, Nat.xor_self, Nat.xor_zero]

/-- The exchange's partners as a permutation of the devices. -/
def swap (s : ℕ) : Dev nD ≃ Dev nD := ⟨partner s, partner s, partner_partner s, partner_partner s⟩

/-- Every device number that the program computes names the partner of its exchange. -/
theorem dev1_partner (c : Dev nD) : (⟨k0_dev1 c, k0_dev1_lt c⟩ : Dev nD) = partner 0 c := by revert c; decide
theorem dev2_partner (c : Dev nD) : (⟨k0_dev2 c, k0_dev2_lt c⟩ : Dev nD) = partner 0 c := by revert c; decide
theorem dev3_partner (c : Dev nD) : (⟨k0_dev3 c, k0_dev3_lt c⟩ : Dev nD) = partner 1 c := by revert c; decide
theorem dev4_partner (c : Dev nD) : (⟨k0_dev4 c, k0_dev4_lt c⟩ : Dev nD) = partner 1 c := by revert c; decide
theorem dev5_partner (c : Dev nD) : (⟨k0_dev5 c, k0_dev5_lt c⟩ : Dev nD) = partner 2 c := by revert c; decide
theorem dev6_partner (c : Dev nD) : (⟨k0_dev6 c, k0_dev6_lt c⟩ : Dev nD) = partner 2 c := by revert c; decide
theorem dev7_partner (c : Dev nD) : (⟨k0_dev7 c, k0_dev7_lt c⟩ : Dev nD) = partner 3 c := by revert c; decide
theorem dev8_partner (c : Dev nD) : (⟨k0_dev8 c, k0_dev8_lt c⟩ : Dev nD) = partner 3 c := by revert c; decide
theorem dev9_partner (c : Dev nD) : (⟨k0_dev9 c, k0_dev9_lt c⟩ : Dev nD) = partner 4 c := by revert c; decide
theorem dev10_partner (c : Dev nD) : (⟨k0_dev10 c, k0_dev10_lt c⟩ : Dev nD) = partner 4 c := by revert c; decide
theorem dev11_partner (c : Dev nD) : (⟨k0_dev11 c, k0_dev11_lt c⟩ : Dev nD) = partner 5 c := by revert c; decide
theorem dev12_partner (c : Dev nD) : (⟨k0_dev12 c, k0_dev12_lt c⟩ : Dev nD) = partner 5 c := by revert c; decide

/-! ## The loops' trip counts -/

theorem trips_t1 : k0_t1_loop.trips = 12 := by decide
theorem trips_t2 : ∀ k, (k0_t2_loop k).trips = k.val + 1 := by decide
theorem trips_t3 : ∀ k, (k0_t3_loop k).trips = 0 := by decide
theorem trips_t4 : k0_t4_loop.trips = 12 := by decide
theorem trips_t5 : k0_t5_loop.trips = 12 := by decide
theorem trips_t6 : k0_t6_loop.trips = 12 := by decide

/-! ## The contents along a grid point -/

/-- The word in which the program holds the device's position. -/
abbrev posWord (c : Dev nD) : BitVec 32 := Scalar.remsi (Scalar.divsi (Dev.word c) 1#32) 8#32

/-- The block after the inner loop's first `j` trips in trip `k` of the local sort. -/
def innerSort (c : Dev nD) (k : Fin k0_t1_loop.trips) (j : ℕ) (x : Blk F) : Blk F :=
  afterTrips (fun i => k0_pay4 c k i) j x

/-- The block after the first `k` trips of the local sort. -/
def outerSort (c : Dev nD) (k : ℕ) (x : Blk F) : Blk F :=
  afterTrips (fun i => innerSort c i (k0_t2_loop i).trips) k x

/-- The block that device `c` has sorted by itself. -/
def localSort (c : Dev nD) (x : Blk F) : Blk F := outerSort c k0_t1_loop.trips (k0_pay3 x)

/-- The elementwise minimum or maximum that device `c` keeps in exchange `s`, of its own block and the partner's. -/
def kept (s : ℕ) (c : Dev nD) (mine theirs : Blk F) : Blk F :=
  match s with
  | 0 => k0_pay6 (posWord c) mine theirs
  | 1 => k0_pay8 (posWord c) mine theirs
  | 2 => k0_pay9 (posWord c) mine theirs
  | 3 => k0_pay11 (posWord c) mine theirs
  | 4 => k0_pay12 (posWord c) mine theirs
  | _ => k0_pay1 (posWord c) mine theirs (Scalar.andi (posWord c) 1#32) 0#32

/-- The block after the merging loop that follows exchange `s`, or the block itself where no loop follows. -/
def merged (s : ℕ) (c : Dev nD) (x : Blk F) : Blk F :=
  match s with
  | 0 => afterTrips (fun i => k0_pay7 (posWord c) i) k0_t4_loop.trips x
  | 2 => afterTrips (fun i => k0_pay10 (posWord c) i) k0_t5_loop.trips x
  | 5 => afterTrips (fun i => k0_pay2 (posWord c) i) k0_t6_loop.trips x
  | _ => x

/-- What device `c`'s working buffer holds before exchange `s`, when the devices fetched the blocks `x`. -/
def blockAt (x : Dev nD → Blk F) : ℕ → Dev nD → Blk F
  | 0, c => localSort c (x c)
  | s + 1, c => merged s c (kept s c (blockAt x s c) (blockAt x s (partner s c)))

/-! ## The blocks fetched -/

variable (m : (ℓ : Loc nD τ sig) → Buf (Elt F) ℓ)

/-- Grid point number `t`. -/
def point (t : ℕ) : Fin cfg0.N := ⟨t % 8, by rw [show cfg0.N = 8 from N_0]; exact Nat.mod_lt _ (by decide)⟩

theorem point_val (t : Fin cfg0.N) : point t.val = t := by
  apply Fin.ext
  exact Nat.mod_eq_of_lt (lt_of_lt_of_eq t.isLt N_0)

/-- The block of its argument that device `c` fetches at a grid point. -/
def fetchedAt (c : Dev nD) (t : Fin cfg0.N) : Blk F :=
  ((cfg0.win 0).blk t).view.read (Elt F) (m ((c : Thread nD τ).loc main_arg0))

/-- What device `c`'s working buffer holds before exchange `s` of grid point `t`. -/
def held (t s : ℕ) (c : Dev nD) : Blk F := blockAt (fun d => fetchedAt m d (point t)) s c

end Cert.Proof

end
-- ==== Proof.Protocol.lean ====
/-
  The agreement by which the devices exchange their blocks. In exchange `s` of grid point `t` a device first tells its
  partner that its landing buffer is free, then waits until the partner has told it the same, then copies its working
  buffer into the partner's landing buffer, and waits until its own copy has been read out and the partner's copy has
  landed. Each of these four events is a unit on a semaphore; this module says, for every semaphore and every round of its
  use, what a device that waits there receives:

  * on the ready semaphore of exchange `s`: the partner's landing buffer, with the fact that the partner has come to
    this exchange;
  * on the send semaphore: its own working buffer back, unchanged;
  * on the receive semaphore: its own landing buffer, holding the partner's block, with the fact that the partner is
    done with this round of its ready semaphore.

  All exchanges are numbered in the order of the program: number `6 * t + s`. A wait in exchange number `r` has level
  `2 * r + 1` on the ready semaphore and `2 * r + 2` on the receive semaphore, and every wait is below all that the
  waiting device still owes: so no device waits for ever.
-/
module

public import Idealize.ShloMosaic.Lib.Pipeline.Launch
public import Idealize.ShloMosaic.Lib.Tactic
public import proofs.«01_k».proof.Proof.Contents

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-! ## The ghost state -/

/-- Rounds of semaphore use, each with at most one contribution. -/
abbrev Turns : Type := URounds (GSem nD τ sig) Unit

/-- The staging buffers' rounds and the exchanges' rounds. -/
abbrev Ghost : Type := Turns × Turns

local notation "𝕄" => MT nD τ sig ℕ (Elt F) ℕ Ghost ℕ

/-- Where the staging buffers' rounds live, -/
def stagingIn : Emb Turns (MT nD τ sig ℕ (Elt F) ℕ Ghost ℕ) :=
  (Emb.inl : Emb Turns Ghost).trans (uEmb (nD := nD) (sig := sig) (Ix := ℕ) (Val := Elt F) (Name := ℕ) (U := Ghost) (Lvl := ℕ)).toEmb

/-- and where the exchanges' rounds live. -/
def turnsIn : Emb Turns (MT nD τ sig ℕ (Elt F) ℕ Ghost ℕ) :=
  (Emb.inr : Emb Turns Ghost).trans (uEmb (nD := nD) (sig := sig) (Ix := ℕ) (Val := Elt F) (Name := ℕ) (U := Ghost) (Lvl := ℕ)).toEmb

instance stagingIn_landsIn : (stagingIn : Emb Turns 𝕄).LandsIn (upEmb : UEmb _ 𝕄) := by unfold stagingIn; infer_instance
instance turnsIn_landsIn : (turnsIn : Emb Turns 𝕄).LandsIn (upEmb : UEmb _ 𝕄) := by unfold turnsIn; infer_instance

/-! ## Buffers and semaphores -/

/-- The working buffer and the landing buffer. -/
abbrev work : Memref sig .tc .vmem S4096x128 .bf16 := Memref.whole cc0_scratch0
abbrev landing : Memref sig .tc .vmem S4096x128 .bf16 := Memref.whole cc0_scratch1

/-- The ready semaphore of exchange `s`. -/
def readySem (s : ℕ) : Sem sig := ⟨s % 6, Nat.mod_lt _ (by decide)⟩

/-- The cells of device `c`: ready for exchange `s`, send, receive. -/
abbrev readyCell (s : ℕ) (c : Dev nD) : GSem nD τ sig := ((c : Thread nD τ), .reg (readySem s))
abbrev sendCell (c : Dev nD) : GSem nD τ sig := ((c : Thread nD τ), .dma cc0_scratch2.sem)
abbrev recvCell (c : Dev nD) : GSem nD τ sig := ((c : Thread nD τ), .dma cc0_scratch3.sem)

/-- The kernel's own semaphores in a row: six ready semaphores, the send and the receive semaphore. -/
def ownSem (k : Fin 8) : SemLoc sig :=
  if k.val < 6 then .reg (readySem k.val) else if k.val = 6 then .dma cc0_scratch2.sem else .dma cc0_scratch3.sem

/-- The units of a copy of one block. -/
abbrev units : ℕ := landing.view.dmaCredit

theorem units_pos : 0 < units := View.dmaCredit_pos _ (by decide)

/-- Device `c`'s working buffer at contents `f`, as the source of a copy; -/
def workPts (c : Dev nD) (f : Blk F) : sProp 𝕄 :=
  work.view.loc (c : Thread nD τ) ↦[work.view.set]{fullShare} f

/-- its landing buffer at contents `f`, as the destination of a copy. -/
def landPts (c : Dev nD) (f : Blk F) : sProp 𝕄 :=
  landing.view.loc (c : Thread nD τ) ↦[landing.view.set]{fullShare} f

omit [FloatOps F] in
instance workPts_storable (c : Dev nD) (f : Blk F) : BI.Storable (upEmb : UEmb _ 𝕄) (workPts (F := F) c f) := by
  unfold workPts; infer_instance
omit [FloatOps F] in
instance landPts_storable (c : Dev nD) (f : Blk F) : BI.Storable (upEmb : UEmb _ 𝕄) (landPts (F := F) c f) := by
  unfold landPts; infer_instance

omit [FloatOps F] in
theorem work_set : work.view.set = Finset.univ := View.set_whole _
omit [FloatOps F] in
theorem landing_set : landing.view.set = Finset.univ := View.set_whole _

omit [FloatOps F] in
theorem workPts_eq (c : Dev nD) (f : Buf (Elt F) ((c : Thread nD τ).loc cc0_scratch0)) :
    workPts c f = (((c : Thread nD τ).loc cc0_scratch0) ↦{fullShare} f : sProp 𝕄) := by
  unfold workPts; rw [work_set]
omit [FloatOps F] in
theorem landPts_eq (c : Dev nD) (f : Buf (Elt F) ((c : Thread nD τ).loc cc0_scratch1)) :
    landPts c f = (((c : Thread nD τ).loc cc0_scratch1) ↦{fullShare} f : sProp 𝕄) := by
  unfold landPts; rw [landing_set]

omit [FloatOps F] in
/-- A copy of the working buffer over the landing buffer leaves the working buffer's contents there. -/
theorem copied_eq (f g : Blk F) :
    landing.view.write (Elt F) g (work.view.read (Elt F) f) Finset.univ = f := by
  show (View.whole cc0_scratch1).write (Elt F) g ((View.whole cc0_scratch0).read (Elt F) f) Finset.univ = f
  rw [View.read_whole]
  exact View.write_whole_univ _ _ _

/-! ## What every round of a semaphore delivers -/

variable (m : (ℓ : Loc nD τ sig) → Buf (Elt F) ℓ)

/-- Round `t` of device `c`'s ready semaphore `s`. -/
def readyPay (s : ℕ) (c : Dev nD) (t : ℕ) : sProp 𝕄 :=
  iprop((∃ f, landPts (partner s c) f) ∗ reached turnsIn (recvCell (partner s c)) (6 * t + s))

/-- Round `r` of device `c`'s send semaphore. -/
def sendPay (c : Dev nD) (r : ℕ) : sProp 𝕄 := workPts c (held m (r / 6) (r % 6) c)

/-- Round `r` of device `c`'s receive semaphore. -/
def recvPay (c : Dev nD) (r : ℕ) : sProp 𝕄 :=
  iprop(landPts c (held m (r / 6) (r % 6) (partner (r % 6) c)) ∗ reached turnsIn (readyCell (r % 6) (partner (r % 6) c)) (r / 6 + 1))

/-- How often a semaphore is used in the whole run. -/
def uses : SemLoc sig → ℕ
  | .reg _ => 8
  | .dma q => if q = cc0_scratch2.sem ∨ q = cc0_scratch3.sem then 48 else 0

/-- The agreement. -/
def turns : Rounds.Schedule (GSem nD τ sig) Unit 𝕄 where
  duties g r := if g.1.2 = .tc ∧ r < uses g.2 then {()} else ∅
  unitless _ := False
  amount g _ _ := match g.2 with | .reg _ => 1 | .dma _ => units
  payload g r _ := match g.2 with
    | .reg q => readyPay q.val g.1.1 r
    | .dma q => if q = cc0_scratch2.sem then sendPay m g.1.1 r else recvPay m g.1.1 r
  amount_pos g _ _ _ := by
    rcases g with ⟨_, q | q⟩
    · exact Nat.one_pos
    · exact units_pos

instance turns_payload_storable (g : GSem nD τ sig) (r : ℕ) (d : Unit) :
    BI.Storable (upEmb : UEmb _ 𝕄) ((turns (F := F) m).payload g r d) := by
  rcases g with ⟨_, q | q⟩
  · show BI.Storable upEmb (readyPay _ _ _)
    unfold readyPay; infer_instance
  · show BI.Storable upEmb (if _ then _ else _)
    unfold sendPay recvPay
    split <;> infer_instance

section Computed

variable (c : Dev nD)

omit [FloatOps F] in
theorem readySem_val {s : ℕ} (hs : s < 6) : (readySem s).val = s := Nat.mod_eq_of_lt hs

theorem duties_ready (s : ℕ) {t : ℕ} (ht : t < 8) : (turns (F := F) m).duties (readyCell s c) t = {()} :=
  if_pos ⟨rfl, ht⟩
theorem duties_send {r : ℕ} (hr : r < 48) : (turns (F := F) m).duties (sendCell c) r = {()} :=
  if_pos ⟨rfl, by simpa only [uses, true_or, if_true] using hr⟩
theorem duties_recv {r : ℕ} (hr : r < 48) : (turns (F := F) m).duties (recvCell c) r = {()} :=
  if_pos ⟨rfl, by simpa only [uses, or_true, if_true] using hr⟩

/-- A ready semaphore is used up after 8 rounds, the send and receive semaphores after 48. -/
theorem duties_ready_end (s : ℕ) : ∀ r, 8 ≤ r → (turns (F := F) m).duties (readyCell s c) r = ∅ :=
  fun _ hr => if_neg fun h => absurd h.2 (Nat.not_lt.mpr hr)
theorem duties_send_end : ∀ r, 48 ≤ r → (turns (F := F) m).duties (sendCell c) r = ∅ :=
  fun _ hr => if_neg fun h => absurd h.2 (by simpa only [uses, true_or, if_true] using Nat.not_lt.mpr hr)
theorem duties_recv_end : ∀ r, 48 ≤ r → (turns (F := F) m).duties (recvCell c) r = ∅ :=
  fun _ hr => if_neg fun h => absurd h.2 (by simpa only [uses, or_true, if_true] using Nat.not_lt.mpr hr)

theorem amount_ready (s t : ℕ) (u : Unit) : (turns (F := F) m).amount (readyCell s c) t u = 1 := rfl
theorem amount_send (r : ℕ) (u : Unit) : (turns (F := F) m).amount (sendCell c) r u = units := rfl
theorem amount_recv (r : ℕ) (u : Unit) : (turns (F := F) m).amount (recvCell c) r u = units := rfl

theorem expect_ready (s : ℕ) {t : ℕ} (ht : t < 8) : (turns (F := F) m).expect (readyCell s c) t = 1 := by
  unfold Schedule.expect Schedule.amountOf; rw [duties_ready m c s ht, Finset.sum_singleton, amount_ready]
theorem expect_send {r : ℕ} (hr : r < 48) : (turns (F := F) m).expect (sendCell c) r = units := by
  unfold Schedule.expect Schedule.amountOf; rw [duties_send m c hr, Finset.sum_singleton, amount_send]
theorem expect_recv {r : ℕ} (hr : r < 48) : (turns (F := F) m).expect (recvCell c) r = units := by
  unfold Schedule.expect Schedule.amountOf; rw [duties_recv m c hr, Finset.sum_singleton, amount_recv]

theorem payload_ready {s : ℕ} (hs : s < 6) (t : ℕ) (u : Unit) : (turns (F := F) m).payload (readyCell s c) t u = readyPay s c t := by
  show readyPay (readySem s).val c t = _
  rw [readySem_val hs]
theorem payload_send {t s : ℕ} (hs : s < 6) (u : Unit) :
    (turns (F := F) m).payload (sendCell c) (6 * t + s) u = workPts c (held m t s c) := by
  show (if (cc0_scratch2.sem : DmaSem sig) = cc0_scratch2.sem then sendPay m c (6 * t + s) else recvPay m c (6 * t + s)) = _
  rw [if_pos rfl, sendPay, show (6 * t + s) / 6 = t by omega, show (6 * t + s) % 6 = s by omega]
theorem payload_recv {t s : ℕ} (hs : s < 6) (u : Unit) :
    (turns (F := F) m).payload (recvCell c) (6 * t + s) u
      = iprop(landPts c (held m t s (partner s c)) ∗ reached turnsIn (readyCell s (partner s c)) (t + 1)) := by
  show (if (cc0_scratch3.sem : DmaSem sig) = cc0_scratch2.sem then sendPay m c (6 * t + s) else recvPay m c (6 * t + s)) = _
  rw [if_neg (by decide), recvPay, show (6 * t + s) / 6 = t by omega, show (6 * t + s) % 6 = s by omega]

/-- Waiting for a whole round delivers its one payload. -/
theorem rest_ready {s t : ℕ} (hs : s < 6) (ht : t < 8) :
    bigSep ((turns (F := F) m).duties (readyCell s c) t \ ∅) (fun u => (turns (F := F) m).payload (readyCell s c) t u) = readyPay s c t := by
  rw [Finset.sdiff_empty, duties_ready m c s ht, bigSep_singleton, payload_ready m c hs]
theorem rest_send {s t : ℕ} (hs : s < 6) (ht : t < 8) :
    bigSep ((turns (F := F) m).duties (sendCell c) (6 * t + s) \ ∅) (fun u => (turns (F := F) m).payload (sendCell c) (6 * t + s) u)
      = workPts c (held m t s c) := by
  rw [Finset.sdiff_empty, duties_send m c (by omega), bigSep_singleton, payload_send m c hs]
theorem rest_recv {s t : ℕ} (hs : s < 6) (ht : t < 8) :
    bigSep ((turns (F := F) m).duties (recvCell c) (6 * t + s) \ ∅) (fun u => (turns (F := F) m).payload (recvCell c) (6 * t + s) u)
      = iprop(landPts c (held m t s (partner s c)) ∗ reached turnsIn (readyCell s (partner s c)) (t + 1)) := by
  rw [Finset.sdiff_empty, duties_recv m c (by omega), bigSep_singleton, payload_recv m c hs]

end Computed

/-! ## What a device owes, and the levels -/

/-- What exchange number `r` of device `c` pays to its partner: a unit on the ready semaphore and a copy's units on the
    receive semaphore. -/
def oweReady (c : Dev nD) (r : ℕ) : CellTallies nD τ sig ℕ := tallyAt (readyCell (r % 6) (partner (r % 6) c)) (2 * r + 1) 1
def oweRecv (c : Dev nD) (r : ℕ) : CellTallies nD τ sig ℕ := tallyAt (recvCell (partner (r % 6) c)) (2 * r + 2) units

/-- What device `c` owes while its last `n` exchanges are still to come. -/
def owed (c : Dev nD) : ℕ → CellTallies nD τ sig ℕ
  | 0 => 0
  | n + 1 => owed c n + oweRecv c (47 - n) + oweReady c (47 - n)

/-- Every cell of a device's main processor has its indices levelled by themselves. -/
def levelled (g : GSem nD τ sig) : Finset ℕ := if g.1.2 = .tc then Finset.range 100 else ∅
def level (_ : GSem nD τ sig) (i : ℕ) : ℕ := i

theorem levelled_of_ne (g : GSem nD τ sig) (h : g.1.2 ≠ .tc) : levelled g = ∅ := if_neg h
theorem mem_levelled (c : Dev nD) (q : SemLoc sig) {i : ℕ} (h : i < 100) : i ∈ levelled ((c : Thread nD τ), q) := by
  rw [levelled, if_pos rfl]; exact Finset.mem_range.mpr h

/-- Every index at which a device owes is one of the levels of the exchanges to come. -/
theorem tally_pos {g g' : GSem nD τ sig} {i i' k : ℕ} (h : 0 < (tallyAt g i k : CellTallies nD τ sig ℕ) g' i') : g' = g ∧ i' = i := by
  rw [tallyAt_apply] at h
  by_contra hn
  rw [if_neg (fun h' => hn h')] at h
  exact Nat.lt_irrefl 0 h

theorem owed_pos {c : Dev nD} {g : GSem nD τ sig} {i : ℕ} : ∀ {n : ℕ}, n ≤ 48 → 0 < owed c n g i →
    (∃ d q, g = (((d : Dev nD) : Thread nD τ), q)) ∧ 2 * (48 - n) + 1 ≤ i ∧ i < 100
  | 0, _, h => absurd h (Nat.lt_irrefl 0)
  | n + 1, hn, h => by
    rw [owed, Pi.add_apply, Pi.add_apply, Finsupp.add_apply, Finsupp.add_apply] at h
    rcases Nat.eq_zero_or_pos (oweReady c (47 - n) g i) with h1 | h1
    · rcases Nat.eq_zero_or_pos (oweRecv c (47 - n) g i) with h2 | h2
      · obtain ⟨hg, hi⟩ := owed_pos (c := c) (g := g) (i := i) (n := n) (by omega) (by omega)
        exact ⟨hg, by omega, hi.2⟩
      · obtain ⟨rfl, rfl⟩ := tally_pos h2
        exact ⟨⟨_, _, rfl⟩, by omega, by omega⟩
    · obtain ⟨rfl, rfl⟩ := tally_pos h1
      exact ⟨⟨_, _, rfl⟩, by omega, by omega⟩

/-- A device may wait at level `i` on a cell of its own while everything it owes is above. -/
theorem mayWait_below (c : Dev nD) (q : SemLoc sig) (i : ℕ) (hi : i < 100) (O : CellTallies nD τ sig ℕ)
    (hO : ∀ g j, 0 < O g j → (∃ d s, g = (((d : Dev nD) : Thread nD τ), s)) ∧ i < j ∧ j < 100) :
    (levAts levelled level : sProp 𝕄) ⊢ MayWait (c : Thread nD τ) q i O :=
  MayOwe.of_cut (L := levelled) (lev := level) i
    (fun p hp => by rw [Finset.mem_singleton.mp hp]; exact mem_levelled c q hi)
    (fun g j hg => by
      obtain ⟨⟨d, s, rfl⟩, -, hj⟩ := hO g j hg
      exact mem_levelled d s hj)
    (fun p hp => by rw [Finset.mem_singleton.mp hp]; exact Nat.le_refl _)
    (fun g j hg => (hO g j hg).2.1)

theorem mayWait_owed (c : Dev nD) (q : SemLoc sig) (i : ℕ) (n : ℕ) (hn : n ≤ 48) (hi : i < 2 * (48 - n) + 1) :
    (levAts levelled level : sProp 𝕄) ⊢ MayWait (c : Thread nD τ) q i (owed c n) :=
  mayWait_below c q i (by omega) _ fun _ _ hg => by
    obtain ⟨h1, h2, h3⟩ := owed_pos hn hg
    exact ⟨h1, by omega, h3⟩

theorem mayWait_owed_recv (c : Dev nD) (q : SemLoc sig) (i : ℕ) (n : ℕ) (hn : n < 48) (hi : i < 2 * (47 - n) + 2) :
    (levAts levelled level : sProp 𝕄) ⊢ MayWait (c : Thread nD τ) q i (owed c n + oweRecv c (47 - n)) :=
  mayWait_below c q i (by omega) _ fun g j hg => by
    rw [Pi.add_apply, Finsupp.add_apply] at hg
    rcases Nat.eq_zero_or_pos (oweRecv c (47 - n) g j) with h2 | h2
    · obtain ⟨h1, h3, h4⟩ := owed_pos (c := c) (g := g) (i := j) (n := n) (by omega) (by omega)
      exact ⟨h1, by omega, h4⟩
    · obtain ⟨rfl, rfl⟩ := tally_pos h2
      exact ⟨⟨_, _, rfl⟩, by omega, by omega⟩

/-! ## What a device holds along its run -/

/-- The credits and tokens that exchange number `r` of device `c` uses up. -/
def stepToks (c : Dev nD) (r : ℕ) : sProp 𝕄 :=
  iprop((cred (tallyAt (readyCell (r % 6) c) (2 * r + 1) 1) ∗ cred (tallyAt (recvCell c) (2 * r + 2) units))
    ∗ dutyTok turnsIn (readyCell (r % 6) (partner (r % 6) c)) (r / 6) ()
    ∗ dutyTok turnsIn (sendCell c) r ()
    ∗ dutyTok turnsIn (recvCell (partner (r % 6) c)) r ())

/-- Those of the last `n` exchanges. -/
def restToks (c : Dev nD) : ℕ → sProp 𝕄
  | 0 => iprop(emp)
  | n + 1 => iprop(stepToks c (47 - n) ∗ restToks c n)

/-- What device `c` holds before exchange number `r`, `n` exchanges being still to come: its places on the send and
    receive semaphores, and the tokens. -/
def along (c : Dev nD) (r n : ℕ) : sProp 𝕄 :=
  iprop((atPos turnsIn (sendCell c) r ∅ 0 ∗ reached turnsIn (sendCell c) r)
    ∗ (atPos turnsIn (recvCell c) r ∅ 0 ∗ reached turnsIn (recvCell c) r) ∗ restToks c n)

/-- Its place on the ready semaphore of exchange `s`, used `t` times by itself and by its partner. -/
def standing (s : ℕ) (c : Dev nD) (t : ℕ) : sProp 𝕄 :=
  iprop(atPos turnsIn (readyCell s c) t ∅ 0 ∗ reached turnsIn (readyCell s (partner s c)) t)

/-- The kernel's own cells: device and place in the row. -/
abbrev cell (ck : Dev nD × Fin 8) : GSem nD τ sig := ((ck.1 : Thread nD τ), ownSem ck.2)

/-- The agreement in force on every cell, under the names `K`. -/
def agreed (K : Dev nD × Fin 8 → ℕ) : sProp 𝕄 :=
  bigSep Finset.univ fun ck : Dev nD × Fin 8 => cellInv turnsIn (turns m) (K ck) (cell ck)

instance agreed_persistent (K : Dev nD × Fin 8 → ℕ) : BI.Persistent (agreed m K) := by unfold agreed; infer_instance

theorem agreed_at (K : Dev nD × Fin 8 → ℕ) (c : Dev nD) (k : Fin 8) :
    agreed m K ⊢ cellInv turnsIn (turns m) (K (c, k)) (cell (c, k)) := by
  unfold agreed
  exact bigSep_elim (Finset.mem_univ (c, k))

theorem agreed_ready (K : Dev nD × Fin 8 → ℕ) (c : Dev nD) {s : ℕ} (hs : s < 6) :
    agreed m K ⊢ cellInv turnsIn (turns m) (K (c, ⟨s, by omega⟩)) (readyCell s c) := by
  have h := agreed_at m K c ⟨s, by omega⟩
  rwa [show cell (c, (⟨s, by omega⟩ : Fin 8)) = readyCell s c from by unfold cell ownSem; rw [if_pos hs]] at h
theorem agreed_send (K : Dev nD × Fin 8 → ℕ) (c : Dev nD) :
    agreed m K ⊢ cellInv turnsIn (turns m) (K (c, 6)) (sendCell c) := agreed_at m K c 6
theorem agreed_recv (K : Dev nD × Fin 8 → ℕ) (c : Dev nD) :
    agreed m K ⊢ cellInv turnsIn (turns m) (K (c, 7)) (recvCell c) := agreed_at m K c 7

/-- What device `c` holds before grid point `t`, beside its two buffers: the agreement, the levels, its places and
    tokens. -/
def ready (c : Dev nD) (t : ℕ) : sProp 𝕄 :=
  iprop((∃ K, agreed m K) ∗ levAts levelled level ∗ along c (6 * t) (48 - 6 * t)
    ∗ standing 0 c t ∗ standing 1 c t ∗ standing 2 c t ∗ standing 3 c t ∗ standing 4 c t ∗ standing 5 c t)

/-- The kernel's semaphores all at zero again. -/
def atRest (c : Dev nD) : sProp 𝕄 := bigSep Finset.univ fun k : Fin 8 => semVal (cell (c, k)) 0

/-- What passes from one grid point to the next: the two buffers at some contents, and `ready`; after the last point the
    semaphores at rest. -/
def between (c : Dev nD) (t : ℕ) : sProp 𝕄 :=
  iprop(((∃ f, workPts c f) ∗ (∃ f, landPts c f)) ∗ if t < 8 then ready m c t else atRest c)

/-! ## The pipeline's data -/

/-- On device `c`: the arrays as launched; after a point the argument's staging buffer as fetched and the result's at the
    block's final contents; `between` at every point, owing what the exchanges to come pay. -/
def dats (_ : Fin 1) (c : Dev nD) : Dat τ (Elt F) ℕ ℕ Ghost ℕ cfg0 c where
  A w := m ((cfg0.win w).arr.view.loc (c : Thread nD τ))
  after w t := match w with
    | ⟨0, _⟩ => fetchedAt m c t
    | ⟨1, _⟩ => held m t.val 6 c
  Φ t := between m c t.val
  q _ := fullShare
  owed t := owed c (48 - 6 * t.val)

/-- The kernel calls no function of its own. -/
abbrev noCalls : Variants := Variants.none

end Cert.Proof

end
-- ==== Proof.Exchange.lean ====
/-
  One exchange. A device that comes to exchange `s` of grid point `t` with its block in the working buffer runs the five
  operations of the exchange — signal, wait, copy, two waits — and goes on with its block still in the working buffer and
  the partner's block in the landing buffer. The devices and semaphores that the program names are variables here, with
  the equations that say which they are: so the one statement serves all six exchanges of the program.
-/
module

public import proofs.«01_k».proof.Proof.Protocol

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ Ghost ℕ

variable (m : (ℓ : Loc nD τ sig) → Buf (Elt F) ℓ) (K : Dev nD × Fin 8 → ℕ)

/-- What the program of device `c` runs under. -/
abbrev runs (c : Dev nD) {α : Type} (e : Prog (TpuEff nD τ sig (Elt F) Λ₀ .tc) α) (Q : α → sProp 𝕄) : sProp 𝕄 :=
  wp frame (wpE (defs₀ (F := F)) noCalls (c : Thread nD τ) none) Set.univ e Q

/-- The tokens of exchange `s` of grid point `t`, with its number written out. -/
theorem stepToks_at (c : Dev nD) {t s : ℕ} (hs : s < 6) :
    (stepToks c (6 * t + s) : sProp 𝕄)
      = iprop((cred (tallyAt (readyCell s c) (2 * (6 * t + s) + 1) 1) ∗ cred (tallyAt (recvCell c) (2 * (6 * t + s) + 2) units))
        ∗ dutyTok turnsIn (readyCell s (partner s c)) t ()
        ∗ dutyTok turnsIn (sendCell c) (6 * t + s) ()
        ∗ dutyTok turnsIn (recvCell (partner s c)) (6 * t + s) ()) := by
  rw [stepToks, show (6 * t + s) / 6 = t by omega, show (6 * t + s) % 6 = s by omega]

/-- What the exchange pays, with its number written out. -/
theorem owed_at (c : Dev nD) {t s n : ℕ} (hs : s < 6) (hn : 6 * t + s + n = 47) :
    owed c (n + 1) = owed c n + tallyAt (recvCell (partner s c)) (2 * (6 * t + s) + 2) units
      + tallyAt (readyCell s (partner s c)) (2 * (6 * t + s) + 1) 1 := by
  rw [owed, show 47 - n = 6 * t + s by omega, oweRecv, oweReady, show (6 * t + s) % 6 = s by omega]

set_option maxHeartbeats 1600000 in
theorem exchange (c : Dev nD) {t s n : ℕ} (hs : s < 6) (ht : t < 8) (hn : 6 * t + s + n = 47)
    (n₁ n₂ : Dev nD) (h₁ : n₁ = partner s c) (h₂ : n₂ = partner s c) (q₁ q₂ : Sem sig) (hq₁ : q₁ = readySem s) (hq₂ : q₂ = readySem s)
    (z₁ z₂ : ℤ) (hz₁ : z₁ = ((1 : ℕ) : ℤ)) (hz₂ : z₂ = ((1 : ℕ) : ℤ))
    {hsc : (landing : Memref sig (Dev.tc n₂ : Thread nD τ).2.kind .vmem S4096x128 .bf16).view.ref.isScScratch = false}
    {hsrc hsrc' hsrc'' : work.view.WordExact} {hdst hdst' hdst'' : landing.view.WordExact}
    {hsem : DmaTarget.Typed .vmem (.dma cc0_scratch3.sem) (.remote (Dev.tc n₂ : Thread nD τ) landing (.dma cc0_scratch2.sem) hsc)}
    {α : Type} {Q : α → sProp 𝕄} {k : PUnit → Prog (TpuEff nD τ sig (Elt F) Λ₀ .tc) α} (f : Blk F) (W : Waits sig ℕ) :
    iprop(agreed m K ∗ levAts levelled level ∗ workPts c (held m t s c) ∗ landPts c f ∗ owes (c : Thread nD τ) (owed c (n + 1)) W
        ∗ along c (6 * t + s) (n + 1) ∗ standing s c t)
      ⊢ iprop((∀ W', (workPts c (held m t s c) ∗ landPts c (held m t s (partner s c)) ∗ owes (c : Thread nD τ) (owed c n) W'
              ∗ along c (6 * t + s + 1) n ∗ standing s c (t + 1)) -∗ runs c (k ⟨⟩) Q)
          -∗ runs c (.op (.semSignal (Dev.tc n₁ : Thread nD τ) q₁ z₁) fun _ => .op (.semWait q₂ z₂) fun _ =>
              .op (.enqueueDma work (.remote (Dev.tc n₂ : Thread nD τ) landing (.dma cc0_scratch2.sem) hsc) (.dma cc0_scratch3.sem) hsrc hdst hsem) fun _ =>
              .op (.waitDma2 cc0_scratch2.sem landing work hdst' hsrc') fun _ =>
              .op (.waitDma2 cc0_scratch3.sem work landing hsrc'' hdst'') k) Q) := by
  subst h₁ h₂ hq₁ hq₂ hz₁ hz₂
  unfold along
  rw [owed_at c hs hn, restToks, show 47 - n = 6 * t + s by omega, stepToks_at c hs]
  unfold standing
  iintro ⟨#HI, #Hlev, Hwork, Hland, HO, ⟨⟨HatS, #HrS⟩, ⟨HatV, #HrV⟩, ⟨⟨HcR, HcV⟩, HtR, HtS, HtV⟩, Hrest⟩, HatR, #HrP⟩ Hk
  -- the signal hands the partner the landing buffer
  iapply (Rounds.wp_signal noCalls turnsIn (turns m) (c : Thread nD τ) none (dst := (partner s c : Thread nD τ))
      (κ := K (partner s c, ⟨s, by omega⟩)) (r := t) (d := ())
      (by rw [duties_ready m _ s ht]; exact Finset.mem_singleton_self _) (amount_ready m (partner s c) s t ()) (2 * (6 * t + s) + 1)
      (owed c n + tallyAt (recvCell (partner s c)) (2 * (6 * t + s) + 2) units) rfl)
    $$ [HO HtR Hland]
  · isplitr; · iapply (agreed_ready m K (partner s c) hs); iexact HI
    isplitl [HO]; · iexact HO
    isplitl [HtR]; · iexact HtR
    isplitl [Hland]
    · rw [payload_ready m _ hs]; unfold readyPay; rw [partner_partner]
      isplitl [Hland]; · iexists f; iexact Hland
      iexact HrV
    · iexact HrP
  iintro HO
  -- the wait on the own ready semaphore brings the partner's landing buffer
  iapply (Rounds.wp_wait_rest_token noCalls turnsIn (turns m) (c : Thread nD τ) none (κ := K (c, ⟨s, by omega⟩))
      (wpE_semWait_eq noCalls (c : Thread nD τ) none Set.univ) (Set.mem_univ _) (2 * (6 * t + s) + 1)
      (O := owed c n + tallyAt (recvCell (partner s c)) (2 * (6 * t + s) + 2) units) (W := W) (R := t) (m := 0) (T := ∅)
      (by rw [expect_ready m c s ht])) $$ [HcR HO HatR]
  · isplitr; · iapply (agreed_ready m K c hs); iexact HI
    isplitl [HcR]; · iexact HcR
    isplitl [HO]; · iexact HO
    isplitr
    · have h := mayWait_owed_recv (F := F) c (.reg (readySem s)) (2 * (6 * t + s) + 1) n (by omega) (by omega)
      rw [oweRecv, show 47 - n = 6 * t + s by omega, show (6 * t + s) % 6 = s by omega] at h
      iapply h; iexact Hlev
    iexact HatR
  iintro ⟨HO, HatR, #HrR, Hpay⟩
  ihave Hp := (Entails.of_eq (rest_ready m c hs ht)) $$ Hpay
  unfold readyPay
  icases Hp with ⟨⟨%g, HlandP⟩, #HrVP⟩
  -- the copy into it
  unfold workPts landPts
  iapply (Rounds.wp_send_pointsTo_with noCalls turnsIn (turns m) (c : Thread nD τ) none (κ₁ := K (c, 6)) (κ₂ := K (partner s c, 7))
      (r₁ := 6 * t + s) (r₂ := 6 * t + s) (d₁ := ()) (d₂ := ()) (fd := g) (F := reached turnsIn (readyCell s c) (t + 1))
      (by rw [duties_send m c (by omega)]; exact Finset.mem_singleton_self _)
      (by rw [duties_recv m (partner s c) (by omega)]; exact Finset.mem_singleton_self _)
      (2 * (6 * t + s) + 2) 0 units rfl (amount_send m c _ ()) (amount_recv m (partner s c) _ ()) (owed c n) rfl
      (W := insert (SemLoc.reg (readySem s), 2 * (6 * t + s) + 1) W)
      (by rw [payload_send m c hs]; exact BI.Entails.refl _)
      (by rw [payload_recv m _ hs, partner_partner]; unfold landPts; rw [copied_eq])) $$ [Hwork HlandP HO HtS HtV]
  · isplitr; · iapply (agreed_send m K c); iexact HI
    isplitr; · iapply (agreed_recv m K (partner s c)); iexact HI
    isplitl [Hwork]; · iexact Hwork
    isplitl [HlandP]
    · isplitl [HlandP]; · iexact HlandP
      iexact HrR
    isplitl [HO]; · iexact HO
    isplitl [HtS]; · iexact HtS
    isplitr; · iexact HrS
    isplitl [HtV]; · iexact HtV
    iexact HrVP
  iintro ⟨HcS, HO⟩
  -- the wait for the own copy's read-out
  iapply (Rounds.wp_wait_rest_token noCalls turnsIn (turns m) (c : Thread nD τ) none (κ := K (c, 6))
      (wpE_waitDma2_eq noCalls (c : Thread nD τ) none Set.univ) (Set.mem_univ _) 0 (O := owed c n)
      (W := insert (SemLoc.reg (readySem s), 2 * (6 * t + s) + 1) W) (R := 6 * t + s) (m := 0) (T := ∅)
      (by rw [Nat.zero_add, expect_send m c (by omega)])) $$ [HcS HO HatS]
  · isplitr; · iapply (agreed_send m K c); iexact HI
    isplitl [HcS]; · iexact HcS
    isplitl [HO]; · iexact HO
    isplitr; · iapply (mayWait_owed (F := F) c _ 0 n (by omega) (by omega)); iexact Hlev
    iexact HatS
  iintro ⟨HO, HatS, #HrS', Hpay⟩
  ihave Hwork := (Entails.of_eq (rest_send m c hs ht)) $$ Hpay
  -- the wait for the partner's copy
  iapply (Rounds.wp_wait_rest_token noCalls turnsIn (turns m) (c : Thread nD τ) none (κ := K (c, 7))
      (wpE_waitDma2_eq noCalls (c : Thread nD τ) none Set.univ) (Set.mem_univ _) (2 * (6 * t + s) + 2) (O := owed c n)
      (W := insert (SemLoc.dma cc0_scratch2.sem, 0) (insert (SemLoc.reg (readySem s), 2 * (6 * t + s) + 1) W)) (R := 6 * t + s) (m := 0) (T := ∅)
      (by rw [Nat.zero_add, expect_recv m c (by omega)])) $$ [HcV HO HatV]
  · isplitr; · iapply (agreed_recv m K c); iexact HI
    isplitl [HcV]; · iexact HcV
    isplitl [HO]; · iexact HO
    isplitr; · iapply (mayWait_owed (F := F) c _ (2 * (6 * t + s) + 2) n (by omega) (by omega)); iexact Hlev
    iexact HatV
  iintro ⟨HO, HatV, #HrV', Hpay⟩
  ihave Hp := (Entails.of_eq (rest_recv m c hs ht)) $$ Hpay
  icases Hp with ⟨Hland, #HrP'⟩
  iapply Hk $$ %(insert (SemLoc.dma cc0_scratch3.sem, 2 * (6 * t + s) + 2)
      (insert (SemLoc.dma cc0_scratch2.sem, 0) (insert (SemLoc.reg (readySem s), 2 * (6 * t + s) + 1) W)))
  isplitl [Hwork]; · unfold workPts; iexact Hwork
  isplitl [Hland]; · unfold landPts; iexact Hland
  isplitl [HO]; · iexact HO
  isplitl [HatS HatV Hrest]
  · isplitl [HatS]
    · isplitl [HatS]; · iexact HatS
      iexact HrS'
    isplitl [HatV]
    · isplitl [HatV]; · iexact HatV
      iexact HrV'
    iexact Hrest
  isplitl [HatR]; · iexact HatR
  iexact HrP'

end Cert.Proof

end
-- ==== Proof.Blocks.lean ====
/-
  Loads and stores of a whole block, and the three kinds of counted loop of the kernel: each trip loads the block in the
  working buffer and stores it back changed by one payload, so that after the loop the buffer holds the block that
  the contents module names.
-/
module

public import proofs.«01_k».proof.Proof.Exchange

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ Ghost ℕ

/-! ## Whole buffers -/

section Whole

variable {κ : Kind} {sp : Space} {s : Shape} {e : EltTy}

omit [FloatOps F] in
/-- A load of everything reads what the buffer holds; -/
theorem load_all {M : Memref sig κ sp s e} (hM : M.IsWhole) {off : Fin s.rank → ℕ} (h0 : off = fun _ => 0)
    (inb : ∀ a, off a + s.size a ≤ s.size a) (f : M.view.ty.Contents (Elt F)) :
    M.view.readAt (Elt F) (Rect.unit off s.size inb).toLoadRect f = M.view.read (Elt F) f := by
  obtain ⟨b, rfl, rfl, rfl, h⟩ := hM
  cases h
  exact (Memref.readAt_unit_zero (Elt F) b h0 inb f).trans (View.read_whole _ _).symm

omit [FloatOps F] in
/-- a store of everything leaves what was stored. -/
theorem store_all {M : Memref sig κ sp s e} (hM : M.IsWhole) {off : Fin s.rank → ℕ} (h0 : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  obtain ⟨b, rfl, rfl, rfl, h⟩ := hM
  cases h
  exact (View.read_whole _ _).trans (Memref.write_access_unit_zero_univ (Elt F) b h0 inb f w)

end Whole

/-- The rectangle of all rows and columns. -/
abbrev allOf : Rect S4096x128 := Rect.unit (s := S4096x128) ![0, 0] S4096x128.size inb_S4096x128_S4096x128_0_0

theorem zeros_eq : (![0, 0] : Fin 2 → ℕ) = fun _ => 0 := funext fun a => by fin_cases a <;> rfl

/-- Device `c`'s buffer `M` at contents `X`. -/
abbrev bufAt (c : Dev nD) (M : Memref sig .tc .vmem S4096x128 .bf16) (X : Blk F) : sProp 𝕄 :=
  owns (Ix := ℕ) (Name := ℕ) (U := Ghost) (Lvl := ℕ) (c : Thread nD τ) M fullShare X

section Rules

variable (c : Dev nD) {M : Memref sig .tc .vmem S4096x128 .bf16} (hM : M.IsWhole)

include hM in
theorem run_load {α : Type} {Q : α → sProp 𝕄} (X : Blk F) {hl : M.view.LoadsAt allOf.toLoadRect} {k : Blk F → Prog (TpuEff nD τ sig (Elt F) Λ₀ .tc) α} :
    bufAt c M X ⊢ iprop((bufAt c M X -∗ runs c (k X) Q) -∗ runs c (.op (.load M allOf.toLoadRect hl) k) Q) := by
  unfold bufAt owns
  iintro ⟨%f, %hf, H⟩ Hk
  iapply (wp_load noCalls (c : Thread nD τ) none Set.univ (m := M) (by rw [hM.set_eq_univ]; exact Finset.subset_univ _)) $$ H
  iintro H
  rw [show M.view.readAt (Elt F) allOf.toLoadRect f = X from (load_all hM zeros_eq _ f).trans hf]
  iapply Hk
  iexists f
  isplitr; · ipureintro; exact hf
  iexact H

include hM in
theorem run_store {α : Type} {Q : α → sProp 𝕄} (X w : Blk F) {hx : (M.access allOf).Stores Finset.univ} {hm : Finset.univ = Finset.univ ∨ ∀ a, allOf.stride a = 1}
    {k : PUnit → Prog (TpuEff nD τ sig (Elt F) Λ₀ .tc) α} :
    bufAt c M X ⊢ iprop((bufAt c M w -∗ runs c (k ⟨⟩) Q) -∗ runs c (.op (.store M allOf w Finset.univ hx hm) k) Q) := by
  unfold bufAt owns
  iintro ⟨%f, %hf, H⟩ Hk
  iapply (wp_store noCalls (c : Thread nD τ) none Set.univ (m := M) (r := allOf) (Mk := Finset.univ)
    (by rw [hM.set_eq_univ]; exact Finset.subset_univ _)) $$ H
  iintro H
  iapply Hk
  iexists (M.access allOf).write (Elt F) f w Finset.univ
  isplitr; · ipureintro; exact store_all hM zeros_eq _ f w
  iexact H

end Rules

theorem work_whole : (work : Memref sig .tc .vmem S4096x128 .bf16).IsWhole := Memref.isWhole_whole _
theorem landing_whole : (landing : Memref sig .tc .vmem S4096x128 .bf16).IsWhole := Memref.isWhole_whole _

/-- The working buffer held for copying is the working buffer held for loads and stores; -/
theorem workPts_iff (c : Dev nD) (X : Blk F) : (bufAt c work X : sProp 𝕄) = workPts c X := by
  unfold bufAt owns workPts
  refine Entails.antisymm (show (_ : sProp 𝕄) ⊢ _ from ?_) (show (_ : sProp 𝕄) ⊢ _ from ?_)
  · iintro ⟨%f, %hf, H⟩
    rw [← hf, show work.view.read (Elt F) f = f from View.read_whole _ _]
    iexact H
  · iintro H
    iexists X
    isplitr; · ipureintro; exact View.read_whole _ _
    iexact H

/-- the landing buffer likewise. -/
theorem landPts_iff (c : Dev nD) (X : Blk F) : (bufAt c landing X : sProp 𝕄) = landPts c X := by
  unfold bufAt owns landPts
  refine Entails.antisymm (show (_ : sProp 𝕄) ⊢ _ from ?_) (show (_ : sProp 𝕄) ⊢ _ from ?_)
  · iintro ⟨%f, %hf, H⟩
    rw [← hf, show landing.view.read (Elt F) f = f from View.read_whole _ _]
    iexact H
  · iintro H
    iexists X
    isplitr; · ipureintro; exact View.read_whole _ _
    iexact H

/-! ## Loads and stores of the two buffers -/

section Buffers

variable (c : Dev nD)

theorem load_work {α : Type} {Q : α → sProp 𝕄} (X : Blk F) {hl : work.view.LoadsAt allOf.toLoadRect}
    {k : Blk F → Prog (TpuEff nD τ sig (Elt F) Λ₀ .tc) α} :
    workPts c X ⊢ iprop((workPts c X -∗ runs c (k X) Q) -∗ runs c (.op (.load work allOf.toLoadRect hl) k) Q) := by
  rw [← workPts_iff]; exact run_load c work_whole X

theorem load_landing {α : Type} {Q : α → sProp 𝕄} (X : Blk F) {hl : landing.view.LoadsAt allOf.toLoadRect}
    {k : Blk F → Prog (TpuEff nD τ sig (Elt F) Λ₀ .tc) α} :
    landPts c X ⊢ iprop((landPts c X -∗ runs c (k X) Q) -∗ runs c (.op (.load landing allOf.toLoadRect hl) k) Q) := by
  rw [← landPts_iff]; exact run_load c landing_whole X

theorem store_work {α : Type} {Q : α → sProp 𝕄} (X w : Blk F) {hx : (work.access allOf).Stores Finset.univ}
    {hm : Finset.univ = Finset.univ ∨ ∀ a, allOf.stride a = 1} {k : PUnit → Prog (TpuEff nD τ sig (Elt F) Λ₀ .tc) α} :
    workPts c X ⊢ iprop((workPts c w -∗ runs c (k ⟨⟩) Q) -∗ runs c (.op (.store work allOf w Finset.univ hx hm) k) Q) := by
  rw [← workPts_iff, ← workPts_iff]; exact run_store c work_whole X w

/-! ## The loops -/

/-- One trip: the block is loaded (twice, once for nothing) and stored back changed by `g`. -/
theorem run_trip {σ : Type} {Q : σ → sProp 𝕄} (X : Blk F) (g : Blk F → Blk F) (r : σ)
    {hl hl' : work.view.LoadsAt allOf.toLoadRect} {hx : (work.access allOf).Stores Finset.univ}
    {hm : Finset.univ = Finset.univ ∨ ∀ a, allOf.stride a = 1} :
    workPts c X ⊢ iprop((workPts c (g X) -∗ Q r)
      -∗ runs c (.op (.load work allOf.toLoadRect hl) fun v => .op (.load work allOf.toLoadRect hl') fun _ =>
          .op (.store work allOf (g v) Finset.univ hx hm) fun _ => .ret r) Q) := by
  iintro Hw Hk
  iapply (load_work c X) $$ Hw
  iintro Hw
  iapply (load_work c X) $$ Hw
  iintro Hw
  iapply (store_work c X (g X)) $$ Hw
  iintro Hw
  rw [runs, wp_ret]
  imodintro
  iapply Hk
  iexact Hw

/-- A loop whose trip `i` changes the block by `g i`. -/
theorem run_loop {σ α : Type} {Q : α → sProp 𝕄} {lb ub st : BitVec 32} (hok : Scf.OK lb ub st) (init : σ)
    {body : Fin (Scf.trips lb ub st) → σ → Prog (TpuEff nD τ sig (Elt F) Λ₀ .tc) σ} {kk : σ → Prog (TpuEff nD τ sig (Elt F) Λ₀ .tc) α}
    (g : Fin (Scf.trips lb ub st) → Blk F → Blk F) (X : Blk F)
    (hbody : ∀ i acc Y (Q' : σ → sProp 𝕄), workPts c Y ⊢ iprop((∀ acc', workPts c (g i Y) -∗ Q' acc') -∗ runs c (body i acc) Q')) :
    workPts c X ⊢ iprop((∀ acc, workPts c (afterTrips g (Scf.trips lb ub st) X) -∗ runs c (kk acc) Q)
      -∗ runs c (Scf.for lb ub st hok init body >>= kk) Q) := by
  have h := Scf.wp_for_bind (Q := Q) frame (wpE (defs₀ (F := F)) noCalls (c : Thread nD τ) none) Set.univ lb ub st hok init body (kk := kk)
    (fun n _ => workPts c (afterTrips g n X)) (fun i acc => by
      iintro Hw
      iapply (hbody i acc _ _) $$ Hw
      iintro %acc' Hw
      rw [afterTrips_succ]
      iexact Hw)
  exact h

end Buffers

end Cert.Proof

end
-- ==== Proof.Point.lean ====
/-
  One grid point of the kernel: from the fetched block to the block that goes out, through the local sort, the six
  exchanges with the merges between them, and the copy to the output's staging buffer.
-/
module

public import proofs.«01_k».proof.Proof.Blocks

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ Ghost ℕ

/-! ## The kernel's loops -/

section Loops

variable (c : Dev nD) (i : grid0.Coords) {a1 a2 : Memref sig .tc .vmem S4096x128 .bf16} (h1 : a1.IsWhole) (h2 : a2.IsWhole)
  (hw : (work : Memref sig .tc .vmem S4096x128 .bf16).IsWhole) (hl : (landing : Memref sig .tc .vmem S4096x128 .bf16).IsWhole)
  (s5 s6 : DmaSems sig S_) (s7 : Sems sig S6)

theorem run_merge0 {α : Type} {Q : α → sProp 𝕄} (v2 : BitVec 32) (v : Vec F S4096x128 .bf16) (X : Blk F) {kk : Unit → Prog (TpuEff nD τ sig (Elt F) Λ₀ .tc) α} :
    workPts c X ⊢ iprop((workPts c (afterTrips (fun j => k0_pay7 v2 j) k0_t4_loop.trips X) -∗ runs c (kk ⟨⟩) Q)
      -∗ runs c (Scf.Loop.for k0_t4_loop k0_t4_ok ⟨⟩ (k0_t4_body i a1 h1 a2 h2 work hw landing hl s5 s6 s7 c v2 v) >>= kk) Q) := by
  iintro Hw Hk
  iapply (run_loop c (lb := k0_t4_loop.lb) (ub := k0_t4_loop.ub) (st := k0_t4_loop.st) k0_t4_ok ⟨⟩ (fun j => k0_pay7 v2 j) X (fun j acc Y Q' => by
    unfold k0_t4_body
    simp only [Prog.lift, Prog.bind_op, Prog.bind_ret, Prog.pure_eq_ret]
    iintro Hw Hk
    iapply (run_trip c Y (k0_pay7 v2 j) PUnit.unit) $$ Hw
    iapply Hk)) $$ Hw
  iintro %_ Hw
  iapply Hk
  iexact Hw

theorem run_merge2 {α : Type} {Q : α → sProp 𝕄} (v2 : BitVec 32) (v : Vec F S4096x128 .bf16) (X : Blk F) {kk : Unit → Prog (TpuEff nD τ sig (Elt F) Λ₀ .tc) α} :
    workPts c X ⊢ iprop((workPts c (afterTrips (fun j => k0_pay10 v2 j) k0_t5_loop.trips X) -∗ runs c (kk ⟨⟩) Q)
      -∗ runs c (Scf.Loop.for k0_t5_loop k0_t5_ok ⟨⟩ (k0_t5_body i a1 h1 a2 h2 work hw landing hl s5 s6 s7 c v2 v) >>= kk) Q) := by
  iintro Hw Hk
  iapply (run_loop c (lb := k0_t5_loop.lb) (ub := k0_t5_loop.ub) (st := k0_t5_loop.st) k0_t5_ok ⟨⟩ (fun j => k0_pay10 v2 j) X (fun j acc Y Q' => by
    unfold k0_t5_body
    simp only [Prog.lift, Prog.bind_op, Prog.bind_ret, Prog.pure_eq_ret]
    iintro Hw Hk
    iapply (run_trip c Y (k0_pay10 v2 j) PUnit.unit) $$ Hw
    iapply Hk)) $$ Hw
  iintro %_ Hw
  iapply Hk
  iexact Hw

theorem run_merge5 {α : Type} {Q : α → sProp 𝕄} (v2 : BitVec 32) (X : Blk F) {kk : Unit → Prog (TpuEff nD τ sig (Elt F) Λ₀ .tc) α} :
    workPts c X ⊢ iprop((workPts c (afterTrips (fun j => k0_pay2 v2 j) k0_t6_loop.trips X) -∗ runs c (kk ⟨⟩) Q)
      -∗ runs c (Scf.Loop.for k0_t6_loop k0_t6_ok ⟨⟩ (k0_t6_body i a1 h1 a2 h2 work hw landing hl s5 s6 s7 v2) >>= kk) Q) := by
  iintro Hw Hk
  iapply (run_loop c (lb := k0_t6_loop.lb) (ub := k0_t6_loop.ub) (st := k0_t6_loop.st) k0_t6_ok ⟨⟩ (fun j => k0_pay2 v2 j) X (fun j acc Y Q' => by
    unfold k0_t6_body
    simp only [Prog.lift, Prog.bind_op, Prog.bind_ret, Prog.pure_eq_ret]
    iintro Hw Hk
    iapply (run_trip c Y (k0_pay2 v2 j) PUnit.unit) $$ Hw
    iapply Hk)) $$ Hw
  iintro %_ Hw
  iapply Hk
  iexact Hw

/-- The local sort's loops: the inner loop's second half has no trips. -/
theorem run_sort {α : Type} {Q : α → sProp 𝕄} (X : Blk F) {kk : Unit → Prog (TpuEff nD τ sig (Elt F) Λ₀ .tc) α} :
    workPts c X ⊢ iprop((workPts c (outerSort c k0_t1_loop.trips X) -∗ runs c (kk ⟨⟩) Q)
      -∗ runs c (Scf.Loop.for k0_t1_loop k0_t1_ok ⟨⟩ (k0_t1_body i a1 h1 a2 h2 work hw landing hl s5 s6 s7 c) >>= kk) Q) := by
  iintro Hw Hk
  iapply (run_loop c (lb := k0_t1_loop.lb) (ub := k0_t1_loop.ub) (st := k0_t1_loop.st) k0_t1_ok ⟨⟩
    (fun j => innerSort c j (k0_t2_loop j).trips) X (fun j acc Y Q' => by
    unfold k0_t1_body
    iintro Hw Hk
    iapply (run_loop c (lb := (k0_t2_loop j).lb) (ub := (k0_t2_loop j).ub) (st := (k0_t2_loop j).st) (k0_t2_ok j) (0#32)
      (fun l => k0_pay4 c j l) Y (fun l acc Y Q' => by
      unfold k0_t2_body
      simp only [Prog.lift, Prog.bind_op, Prog.bind_ret, Prog.pure_eq_ret]
      iintro Hw Hk
      iapply (run_trip c Y (k0_pay4 c j l) (0#32)) $$ Hw
      iapply Hk)) $$ Hw
    iintro %v179 Hw
    iapply (run_loop c (lb := (k0_t3_loop j).lb) (ub := (k0_t3_loop j).ub) (st := (k0_t3_loop j).st) (k0_t3_ok j) v179
      (fun l => k0_pay5 c j l) _ (fun l acc Y Q' => by
      unfold k0_t3_body
      simp only [Prog.lift, Prog.bind_op, Prog.bind_ret, Prog.pure_eq_ret]
      iintro Hw Hk
      iapply (run_trip c Y (k0_pay5 c j l) (0#32)) $$ Hw
      iapply Hk)) $$ Hw
    iintro %v180 Hw
    rw [Prog.pure_eq_ret, runs, wp_ret]
    imodintro
    iapply Hk
    rw [afterTrips_none _ (trips_t3 j)]
    iexact Hw)) $$ Hw
  iintro %_ Hw
  iapply Hk
  iexact Hw

end Loops

/-! ## The whole point -/

variable (m : (ℓ : Loc nD τ sig) → Buf (Elt F) ℓ) (K : Dev nD × Fin 8 → ℕ)

set_option maxHeartbeats 4000000 in
theorem run_point (c : Dev nD) (i : grid0.Coords) {a1 a2 : Memref sig .tc .vmem S4096x128 .bf16} (h1 : a1.IsWhole) (h2 : a2.IsWhole)
    (hw : (work : Memref sig .tc .vmem S4096x128 .bf16).IsWhole) (hl : (landing : Memref sig .tc .vmem S4096x128 .bf16).IsWhole)
    {Q : PUnit → sProp 𝕄} {t n : ℕ} (ht : t < 8) (hn : 6 * t + n = 42) (Y f f' : Blk F) (W : Waits sig ℕ) :
    iprop(agreed m K ∗ levAts levelled level ∗ bufAt c a1 (fetchedAt m c (point t)) ∗ bufAt c a2 Y ∗ workPts c f ∗ landPts c f'
        ∗ owes (c : Thread nD τ) (owed c (n + 6)) W ∗ along c (6 * t) (n + 6)
        ∗ standing 0 c t ∗ standing 1 c t ∗ standing 2 c t ∗ standing 3 c t ∗ standing 4 c t ∗ standing 5 c t)
      ⊢ iprop((∀ W', (bufAt c a1 (fetchedAt m c (point t)) ∗ bufAt c a2 (held m t 6 c) ∗ (∃ f, workPts c f) ∗ (∃ f, landPts c f)
            ∗ owes (c : Thread nD τ) (owed c n) W' ∗ along c (6 * t + 6) n
            ∗ standing 0 c (t + 1) ∗ standing 1 c (t + 1) ∗ standing 2 c (t + 1) ∗ standing 3 c (t + 1) ∗ standing 4 c (t + 1)
            ∗ standing 5 c (t + 1)) -∗ |={Set.univ}=> Q ⟨⟩)
          -∗ runs c (cc0_body (F := F) i a1 h1 a2 h2 work hw landing hl cc0_scratch2 cc0_scratch3 cc0_scratch4) Q) := by
  iintro ⟨#Hag, #Hlv, Hx, Hy, Hw, Hl, Ho, Hal, Hs0, Hs1, Hs2, Hs3, Hs4, Hs5⟩ Hk
  rw [cc0_body_eq_skeleton]
  unfold cc0_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  iapply (run_load c h1 (fetchedAt m c (point t))) $$ Hx
  iintro Hx
  iapply (load_work c f) $$ Hw
  iintro Hw
  iapply (store_work c f _) $$ Hw
  iintro Hw
  iapply (run_sort c i h1 h2 hw hl _ _ _ (k0_pay3 (fetchedAt m c (point t)))) $$ Hw
  iintro Hw
  /- exchange 0 -/
  iapply (exchange m K c (t := t) (s := 0) (n := n + 5) (by decide) ht (by omega) _ _ (dev1_partner c) (dev2_partner c) _ _ rfl rfl _ _ rfl rfl f' _)
    $$ [Hw Hl Ho Hal Hs0]
  · isplitr; · iexact Hag
    isplitr; · iexact Hlv
    isplitl [Hw]; · iexact Hw
    isplitl [Hl]; · iexact Hl
    isplitl [Ho]; · iexact Ho
    isplitl [Hal]; · iexact Hal
    iexact Hs0
  iintro %W0 ⟨Hw, Hl, Ho, Hal, Hs0⟩
  iapply (load_work c (held m t 0 c)) $$ Hw
  iintro Hw
  iapply (load_landing c (held m t 0 (partner 0 c))) $$ Hl
  iintro Hl
  iapply (load_work c (held m t 0 c)) $$ Hw
  iintro Hw
  iapply (store_work c (held m t 0 c) (kept 0 c (held m t 0 c) (held m t 0 (partner 0 c)))) $$ Hw
  iintro Hw
  iapply (run_merge0 c i h1 h2 hw hl _ _ _ _ _ _) $$ Hw
  iintro Hw
  /- exchange 1 -/
  iapply (exchange m K c (t := t) (s := 1) (n := n + 4) (by decide) ht (by omega) _ _ (dev3_partner c) (dev4_partner c) _ _ rfl rfl _ _ rfl rfl _ _)
    $$ [Hw Hl Ho Hal Hs1]
  · isplitr; · iexact Hag
    isplitr; · iexact Hlv
    isplitl [Hw]; · iexact Hw
    isplitl [Hl]; · iexact Hl
    isplitl [Ho]; · iexact Ho
    isplitl [Hal]; · iexact Hal
    iexact Hs1
  iintro %W1 ⟨Hw, Hl, Ho, Hal, Hs1⟩
  iapply (load_work c (held m t 1 c)) $$ Hw
  iintro Hw
  iapply (load_landing c (held m t 1 (partner 1 c))) $$ Hl
  iintro Hl
  iapply (load_work c (held m t 1 c)) $$ Hw
  iintro Hw
  iapply (store_work c (held m t 1 c) (kept 1 c (held m t 1 c) (held m t 1 (partner 1 c)))) $$ Hw
  iintro Hw
  /- exchange 2 -/
  iapply (exchange m K c (t := t) (s := 2) (n := n + 3) (by decide) ht (by omega) _ _ (dev5_partner c) (dev6_partner c) _ _ rfl rfl _ _ rfl rfl _ _)
    $$ [Hw Hl Ho Hal Hs2]
  · isplitr; · iexact Hag
    isplitr; · iexact Hlv
    isplitl [Hw]; · iexact Hw
    isplitl [Hl]; · iexact Hl
    isplitl [Ho]; · iexact Ho
    isplitl [Hal]; · iexact Hal
    iexact Hs2
  iintro %W2 ⟨Hw, Hl, Ho, Hal, Hs2⟩
  iapply (load_work c (held m t 2 c)) $$ Hw
  iintro Hw
  iapply (load_landing c (held m t 2 (partner 2 c))) $$ Hl
  iintro Hl
  iapply (load_work c (held m t 2 c)) $$ Hw
  iintro Hw
  iapply (store_work c (held m t 2 c) (kept 2 c (held m t 2 c) (held m t 2 (partner 2 c)))) $$ Hw
  iintro Hw
  iapply (run_merge2 c i h1 h2 hw hl _ _ _ _ _ _) $$ Hw
  iintro Hw
  /- exchange 3 -/
  iapply (exchange m K c (t := t) (s := 3) (n := n + 2) (by decide) ht (by omega) _ _ (dev7_partner c) (dev8_partner c) _ _ rfl rfl _ _ rfl rfl _ _)
    $$ [Hw Hl Ho Hal Hs3]
  · isplitr; · iexact Hag
    isplitr; · iexact Hlv
    isplitl [Hw]; · iexact Hw
    isplitl [Hl]; · iexact Hl
    isplitl [Ho]; · iexact Ho
    isplitl [Hal]; · iexact Hal
    iexact Hs3
  iintro %W3 ⟨Hw, Hl, Ho, Hal, Hs3⟩
  iapply (load_work c (held m t 3 c)) $$ Hw
  iintro Hw
  iapply (load_landing c (held m t 3 (partner 3 c))) $$ Hl
  iintro Hl
  iapply (load_work c (held m t 3 c)) $$ Hw
  iintro Hw
  iapply (store_work c (held m t 3 c) (kept 3 c (held m t 3 c) (held m t 3 (partner 3 c)))) $$ Hw
  iintro Hw
  /- exchange 4 -/
  iapply (exchange m K c (t := t) (s := 4) (n := n + 1) (by decide) ht (by omega) _ _ (dev9_partner c) (dev10_partner c) _ _ rfl rfl _ _ rfl rfl _ _)
    $$ [Hw Hl Ho Hal Hs4]
  · isplitr; · iexact Hag
    isplitr; · iexact Hlv
    isplitl [Hw]; · iexact Hw
    isplitl [Hl]; · iexact Hl
    isplitl [Ho]; · iexact Ho
    isplitl [Hal]; · iexact Hal
    iexact Hs4
  iintro %W4 ⟨Hw, Hl, Ho, Hal, Hs4⟩
  iapply (load_work c (held m t 4 c)) $$ Hw
  iintro Hw
  iapply (load_landing c (held m t 4 (partner 4 c))) $$ Hl
  iintro Hl
  iapply (load_work c (held m t 4 c)) $$ Hw
  iintro Hw
  iapply (store_work c (held m t 4 c) (kept 4 c (held m t 4 c) (held m t 4 (partner 4 c)))) $$ Hw
  iintro Hw
  /- exchange 5 -/
  iapply (exchange m K c (t := t) (s := 5) (n := n + 0) (by decide) ht (by omega) _ _ (dev11_partner c) (dev12_partner c) _ _ rfl rfl _ _ rfl rfl _ _)
    $$ [Hw Hl Ho Hal Hs5]
  · isplitr; · iexact Hag
    isplitr; · iexact Hlv
    isplitl [Hw]; · iexact Hw
    isplitl [Hl]; · iexact Hl
    isplitl [Ho]; · iexact Ho
    isplitl [Hal]; · iexact Hal
    iexact Hs5
  iintro %W5 ⟨Hw, Hl, Ho, Hal, Hs5⟩
  iapply (load_work c (held m t 5 c)) $$ Hw
  iintro Hw
  iapply (load_landing c (held m t 5 (partner 5 c))) $$ Hl
  iintro Hl
  iapply (load_work c (held m t 5 c)) $$ Hw
  iintro Hw
  iapply (store_work c (held m t 5 c) (kept 5 c (held m t 5 c) (held m t 5 (partner 5 c)))) $$ Hw
  iintro Hw
  iapply (run_merge5 c i h1 h2 hw hl _ _ _ _ _) $$ Hw
  iintro Hw
  /- the result's block -/
  ihave Hw := (show (workPts c (afterTrips (fun j => k0_pay2 (posWord c) j) k0_t6_loop.trips
      (kept 5 c (held m t 5 c) (held m t 5 (partner 5 c)))) : sProp 𝕄) ⊢ workPts c (held m t 6 c) from Entails.of_eq rfl) $$ Hw
  iapply (load_work c (held m t 6 c)) $$ Hw
  iintro Hw
  iapply (run_load c h2 Y) $$ Hy
  iintro Hy
  iapply (run_store c h2 Y (held m t 6 c)) $$ Hy
  iintro Hy
  rw [runs, wp_ret]
  iapply Hk $$ %_
  isplitl [Hx]; · iexact Hx
  isplitl [Hy]; · iexact Hy
  isplitl [Hw]; · iexists _; iexact Hw
  isplitl [Hl]; · iexists _; iexact Hl
  isplitl [Ho]; · iexact Ho
  isplitl [Hal]; · iexact Hal
  isplitl [Hs0]; · iexact Hs0
  isplitl [Hs1]; · iexact Hs1
  isplitl [Hs2]; · iexact Hs2
  isplitl [Hs3]; · iexact Hs3
  isplitl [Hs4]; · iexact Hs4
  iexact Hs5

end Cert.Proof

end
-- ==== Proof.Turn.lean ====
/-
  A grid point in the pipeline: what the pipeline hands the kernel's body at a point suffices to run it, and what the body
  leaves is what the pipeline expects; after the last point the kernel's semaphores are taken back, all at zero.
-/
module

public import proofs.«01_k».proof.Proof.Point

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ Ghost ℕ

variable (m : (ℓ : Loc nD τ sig) → Buf (Elt F) ℓ)

/-- The argument's staging buffer holds the fetched block. -/
theorem before_arg (c : Dev nD) (t : Fin cfg0.N) (d) : (dats m 0 c).before 0 t d = fetchedAt m c t := by
  unfold Dat.before
  rw [if_pos (fetch0_0 t)]
  rfl

/-! ## After the last point -/

section Close

variable (K : Dev nD × Fin 8 → ℕ) (c : Dev nD)

theorem close_ready {s : ℕ} (hs : s < 6) :
    iprop(agreed m K ∗ standing s c 8) ⊢ |={Set.univ}=> (semVal (readyCell s c) 0 : sProp 𝕄) := by
  unfold standing
  iintro ⟨#Hag, Hat, -⟩
  ihave Hc := (agreed_ready m K c hs) $$ Hag
  imod (Rounds.cell_close turnsIn (turns m) (Set.mem_univ (K (c, ⟨s, by omega⟩))) (fun h => h) (R := 8)
    (duties_ready_end m c s)) $$ [Hat] with H
  · isplitr; · iexact Hc
    iexact Hat
  imodintro
  iexact H

theorem close_send (n : ℕ) : iprop(agreed m K ∗ along c 48 n)
    ⊢ |={Set.univ}=> iprop((semVal (sendCell c) 0 : sProp 𝕄) ∗ semVal (recvCell c) 0) := by
  unfold along
  iintro ⟨#Hag, ⟨HatS, -⟩, ⟨HatR, -⟩, -⟩
  ihave HcS := (agreed_send m K c) $$ Hag
  ihave HcR := (agreed_recv m K c) $$ Hag
  imod (Rounds.cell_close turnsIn (turns m) (Set.mem_univ (K (c, 6))) (fun h => h) (R := 48) (duties_send_end m c)) $$ [HatS] with HS
  · isplitr; · iexact HcS
    iexact HatS
  imod (Rounds.cell_close turnsIn (turns m) (Set.mem_univ (K (c, 7))) (fun h => h) (R := 48) (duties_recv_end m c)) $$ [HatR] with HR
  · isplitr; · iexact HcR
    iexact HatR
  imodintro
  isplitl [HS] <;> iassumption

omit [FloatOps F] in
theorem fin8_sep (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem close_all (n : ℕ) : iprop(agreed m K ∗ along c 48 n
      ∗ standing 0 c 8 ∗ standing 1 c 8 ∗ standing 2 c 8 ∗ standing 3 c 8 ∗ standing 4 c 8 ∗ standing 5 c 8)
    ⊢ |={Set.univ}=> (atRest c : sProp 𝕄) := by
  iintro ⟨#Hag, Hal, H0, H1, H2, H3, H4, H5⟩
  imod (close_send m K c n) $$ [Hal] with ⟨HS, HR⟩
  · isplitr; · iexact Hag
    iexact Hal
  imod (close_ready m K c (s := 0) (by decide)) $$ [H0] with H0
  · isplitr; · iexact Hag
    iexact H0
  imod (close_ready m K c (s := 1) (by decide)) $$ [H1] with H1
  · isplitr; · iexact Hag
    iexact H1
  imod (close_ready m K c (s := 2) (by decide)) $$ [H2] with H2
  · isplitr; · iexact Hag
    iexact H2
  imod (close_ready m K c (s := 3) (by decide)) $$ [H3] with H3
  · isplitr; · iexact Hag
    iexact H3
  imod (close_ready m K c (s := 4) (by decide)) $$ [H4] with H4
  · isplitr; · iexact Hag
    iexact H4
  imod (close_ready m K c (s := 5) (by decide)) $$ [H5] with H5
  · isplitr; · iexact Hag
    iexact H5
  imodintro
  unfold atRest
  rw [fin8_sep]
  isplitl [H0]; · iexact H0
  isplitl [H1]; · iexact H1
  isplitl [H2]; · iexact H2
  isplitl [H3]; · iexact H3
  isplitl [H4]; · iexact H4
  isplitl [H5]; · iexact H5
  isplitl [HS]; · iexact HS
  iexact HR

end Close

/-! ## The body at a point -/

theorem point_lt (t : Fin cfg0.N) : t.val < 8 := lt_of_lt_of_eq t.isLt N_0

/-- What a point leaves, given what passes on. -/
theorem pass_on (K : Dev nD × Fin 8 → ℕ) (c : Dev nD) {t n : ℕ} (ht : t < 8) (hn : 6 * t + n = 42) :
    iprop(agreed m K ∗ levAts levelled level ∗ (∃ f, workPts c f) ∗ (∃ f, landPts c f) ∗ along c (6 * t + 6) n
        ∗ standing 0 c (t + 1) ∗ standing 1 c (t + 1) ∗ standing 2 c (t + 1) ∗ standing 3 c (t + 1) ∗ standing 4 c (t + 1)
        ∗ standing 5 c (t + 1))
      ⊢ |={Set.univ}=> between m c (t + 1) := by
  unfold between
  by_cases h : t + 1 < 8
  · rw [if_pos h]
    unfold ready
    rw [show 6 * (t + 1) = 6 * t + 6 by omega, show 48 - (6 * t + 6) = n by omega]
    iintro ⟨#Hag, #Hlv, Hw, Hl, Hal, H0, H1, H2, H3, H4, H5⟩
    imodintro
    isplitl [Hw Hl]
    · isplitl [Hw] <;> iassumption
    isplitr; · iexists K; iexact Hag
    isplitr; · iexact Hlv
    isplitl [Hal]; · iexact Hal
    isplitl [H0]; · iexact H0
    isplitl [H1]; · iexact H1
    isplitl [H2]; · iexact H2
    isplitl [H3]; · iexact H3
    isplitl [H4]; · iexact H4
    iexact H5
  · rw [if_neg h]
    obtain rfl : t = 7 := by omega
    iintro ⟨#Hag, #Hlv, Hw, Hl, Hrest⟩
    imod (close_all m K c n) $$ [Hrest] with Hz
    · isplitr; · iexact Hag
      iexact Hrest
    imodintro
    isplitl [Hw Hl]
    · isplitl [Hw] <;> iassumption
    iexact Hz

theorem body_obligation (c : Dev nD) :
    BodyObligation (dats m 0 c) (defs₀ (F := F)) noCalls 0 Set.univ := fun t => by
  have ht := point_lt t
  obtain ⟨n, hn⟩ : ∃ n, 6 * t.val + n = 42 := ⟨42 - 6 * t.val, by omega⟩
  rw [bigSep_W0, bigSep_W0]
  show iprop(between m c t.val ∗ (dats m 0 c).owesAt 0 t.castSucc
      ∗ (∃ d, bufAt c (st0_0 t) ((dats m 0 c).before 0 t d)) ∗ (∃ d, bufAt c (st0_1 t) ((dats m 0 c).before 1 t d)))
    ⊢ runs c (bodyAt0 t) fun _ => iprop(between m c (t.val + 1) ∗ (dats m 0 c).owesAt 0 t.succ
      ∗ bufAt c (st0_0 t) (fetchedAt m c t) ∗ bufAt c (st0_1 t) (held m t.val 6 c))
  unfold between Dat.owesAt Pipeline.owesWithin
  rw [if_pos ht]
  rw [show (dats m 0 c).owed t.castSucc = owed c (n + 6) from congrArg (owed c) (show 48 - 6 * t.val = n + 6 by omega),
    show (dats m 0 c).owed t.succ = owed c n from congrArg (owed c) (show 48 - 6 * (t.val + 1) = n by omega)]
  unfold ready
  rw [show 48 - 6 * t.val = n + 6 by omega]
  iintro ⟨⟨⟨⟨%f, Hw⟩, ⟨%f', Hl⟩⟩, ⟨%K, #Hag⟩, #Hlv, Hal, H0, H1, H2, H3, H4, H5⟩, ⟨%W, -, Ho⟩, ⟨%d0, Hx⟩, ⟨%d1, Hy⟩⟩
  rw [before_arg]
  have hp := point_val t
  iapply (run_point m K c (grid0.coords t) (hstage0_0 ((cfg0.slots t 0).cast nbuf0_0)) (hstage0_1 ((cfg0.slots t 1).cast nbuf0_1))
    (Memref.isWhole_whole _) (Memref.isWhole_whole _) ht hn ((dats m 0 c).before 1 t d1) f f' W) $$ [Hw Hl Hal H0 H1 H2 H3 H4 H5 Ho Hx Hy]
  · rw [hp]
    isplitr; · iexact Hag
    isplitr; · iexact Hlv
    isplitl [Hx]; · iexact Hx
    isplitl [Hy]; · iexact Hy
    isplitl [Hw]; · iexact Hw
    isplitl [Hl]; · iexact Hl
    isplitl [Ho]; · iexact Ho
    isplitl [Hal]; · iexact Hal
    isplitl [H0]; · iexact H0
    isplitl [H1]; · iexact H1
    isplitl [H2]; · iexact H2
    isplitl [H3]; · iexact H3
    isplitl [H4]; · iexact H4
    iexact H5
  rw [hp]
  iintro %W' ⟨Hx, Hy, Hw, Hl, Ho, Hrest⟩
  imod (pass_on m K c ht hn) $$ [Hw Hl Hrest] with Hb
  · isplitr; · iexact Hag
    isplitr; · iexact Hlv
    isplitl [Hw]; · iexact Hw
    isplitl [Hl]; · iexact Hl
    iexact Hrest
  imodintro
  unfold between
  isplitl [Hb]; · iexact Hb
  isplitl [Ho]
  · iexists W'
    isplitr; · ipureintro; exact fun _ _ => Or.inl trivial
    iexact Ho
  isplitl [Hx]; · iexact Hx
  iexact Hy

end Cert.Proof

end
-- ==== Proof.Region.lean ====
/-
  The run. What the launch deals out: to every device its places on its own eight semaphores, the duties that it pays
  (its partners' ready and receive semaphores, its own send semaphore) and the credit for the ones that it waits for. From
  that every fair execution of the program ends with each array at the contents that the grid points wrote, and with all
  semaphores at zero.
-/
module

public import proofs.«01_k».proof.Proof.Turn
public import Idealize.ShloMosaic.Lib.Quiescent

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ Ghost ℕ

variable (m : (ℓ : Loc nD τ sig) → Buf (Elt F) ℓ) (ρ : Dev nD → PrngReg)

theorem ownSem_facts : Pipeline.OwnSemFacts cfg0.spec ownSem := by decide

theorem share_full (c : Dev nD) (w : Fin cfg0.W) : (dats m 0 c).share w = fullShare := by
  unfold Dat.share; split <;> rfl

/-! ## The tokens -/

/-- The duties on a device's own semaphores: exchange number `r` has one on a ready semaphore, one on the send and one on
    the receive semaphore. They are numbered from the last exchange to the first. -/
def readyDuty (j : ℕ) : Fin 8 × ℕ × Unit := (⟨(47 - j) % 6, by omega⟩, (47 - j) / 6, ())
def sendDuty (j : ℕ) : Fin 8 × ℕ × Unit := (6, 47 - j, ())
def recvDuty (j : ℕ) : Fin 8 × ℕ × Unit := (7, 47 - j, ())

def dutySet (_ : Dev nD) : Finset (Fin 8 × ℕ × Unit) :=
  (Finset.range 48).image readyDuty ∪ ((Finset.range 48).image sendDuty ∪ (Finset.range 48).image recvDuty)

theorem readyDuty_inj : Set.InjOn readyDuty (Finset.range 48 : Finset ℕ) := fun a ha b hb h => by
  have ha' := Finset.mem_range.mp (Finset.mem_coe.mp ha)
  have hb' := Finset.mem_range.mp (Finset.mem_coe.mp hb)
  have h1 : (47 - a) % 6 = (47 - b) % 6 := congrArg (fun x : Fin 8 × ℕ × Unit => x.1.val) h
  have h2 : (47 - a) / 6 = (47 - b) / 6 := congrArg (fun x : Fin 8 × ℕ × Unit => x.2.1) h
  omega
theorem sendDuty_inj : Set.InjOn sendDuty (Finset.range 48 : Finset ℕ) := fun a ha b hb h => by
  have ha' := Finset.mem_range.mp (Finset.mem_coe.mp ha)
  have hb' := Finset.mem_range.mp (Finset.mem_coe.mp hb)
  have h2 : 47 - a = 47 - b := congrArg (fun x : Fin 8 × ℕ × Unit => x.2.1) h
  omega
theorem recvDuty_inj : Set.InjOn recvDuty (Finset.range 48 : Finset ℕ) := fun a ha b hb h => by
  have ha' := Finset.mem_range.mp (Finset.mem_coe.mp ha)
  have hb' := Finset.mem_range.mp (Finset.mem_coe.mp hb)
  have h2 : 47 - a = 47 - b := congrArg (fun x : Fin 8 × ℕ × Unit => x.2.1) h
  omega

theorem duty_disj : Disjoint ((Finset.range 48).image readyDuty) ((Finset.range 48).image sendDuty ∪ (Finset.range 48).image recvDuty) := by
  rw [Finset.disjoint_left]
  intro x hx hy
  obtain ⟨j, -, rfl⟩ := Finset.mem_image.mp hx
  have hlt : (readyDuty j).1.val < 6 := Nat.mod_lt _ (by decide)
  rcases Finset.mem_union.mp hy with h | h <;> obtain ⟨i, -, hi⟩ := Finset.mem_image.mp h <;> rw [← hi] at hlt
  · exact absurd hlt (by decide : ¬ (6 : Fin 8).val < 6)
  · exact absurd hlt (by decide : ¬ (7 : Fin 8).val < 6)
theorem duty_disj' : Disjoint ((Finset.range 48).image sendDuty) ((Finset.range 48).image recvDuty) := by
  rw [Finset.disjoint_left]
  intro x hx hy
  obtain ⟨j, -, rfl⟩ := Finset.mem_image.mp hx
  obtain ⟨i, -, hi⟩ := Finset.mem_image.mp hy
  exact absurd (congrArg (fun x : Fin 8 × ℕ × Unit => x.1) hi) (by decide : ¬ (7 : Fin 8) = 6)

/-- The tokens of a device's own semaphores, for exchange number `r`; -/
def minted (c : Dev nD) (r : ℕ) : sProp 𝕄 :=
  iprop(dutyTok turnsIn (readyCell (r % 6) c) (r / 6) () ∗ dutyTok turnsIn (sendCell c) r () ∗ dutyTok turnsIn (recvCell c) r ())

/-- and those of the duties that the device pays. -/
def dealt (c : Dev nD) (r : ℕ) : sProp 𝕄 :=
  iprop(dutyTok turnsIn (readyCell (r % 6) (partner (r % 6) c)) (r / 6) () ∗ dutyTok turnsIn (sendCell c) r ()
    ∗ dutyTok turnsIn (recvCell (partner (r % 6) c)) r ())

omit [FloatOps F] in
theorem duties_minted (c : Dev nD) :
    (bigSep (dutySet c) fun x => (dutyTok turnsIn ((c : Thread nD τ), ownSem x.1) x.2.1 x.2.2 : sProp 𝕄))
      = bigSep (Finset.range 48) fun j => minted c (47 - j) := by
  unfold dutySet minted
  rw [bigSep_union duty_disj, bigSep_union duty_disj', bigSep_image_of_injOn readyDuty_inj, bigSep_image_of_injOn sendDuty_inj,
    bigSep_image_of_injOn recvDuty_inj, bigSep_sep', bigSep_sep']
  congr 1

omit [FloatOps F] in
/-- The tokens of one exchange change hands between partners; -/
theorem deal_one (r : ℕ) : (bigSep Finset.univ fun c : Dev nD => (minted c r : sProp 𝕄)) ⊢ bigSep Finset.univ fun c : Dev nD => dealt c r := by
  refine Entails.of_eq ?_
  unfold minted dealt
  rw [bigSep_sep', bigSep_sep', bigSep_sep', bigSep_sep',
    bigSep_univ_equiv (swap (r % 6)) (fun c : Dev nD => (dutyTok turnsIn (readyCell (r % 6) c) (r / 6) () : sProp 𝕄)),
    bigSep_univ_equiv (swap (r % 6)) (fun c : Dev nD => (dutyTok turnsIn (recvCell c) r () : sProp 𝕄))]
  rfl

omit [FloatOps F] in
/-- One more number in a range is one more factor. -/
theorem range_more (Φ : ℕ → sProp 𝕄) (n : ℕ) : bigSep (Finset.range (n + 1)) Φ = iprop(Φ n ∗ bigSep (Finset.range n) Φ) := by
  rw [Finset.range_add_one]
  exact bigSep_insert Finset.notMem_range_self

omit [FloatOps F] in
/-- so do the tokens of all. -/
theorem deal_around : ∀ n : ℕ,
    (bigSep Finset.univ fun c : Dev nD => bigSep (Finset.range n) fun j => (minted c (47 - j) : sProp 𝕄))
      ⊢ bigSep Finset.univ fun c : Dev nD => bigSep (Finset.range n) fun j => dealt c (47 - j)
  | 0 => by simp only [Finset.range_zero, bigSep_empty]; exact Entails.refl _
  | n + 1 => by
    simp only [range_more]
    rw [bigSep_sep', bigSep_sep']
    exact BIClass.sep_mono (deal_one _) (deal_around n)

/-! ## The credits -/

/-- The credits that a device's waits in the last `n` exchanges use up. -/
def restCreds (c : Dev nD) : ℕ → sProp 𝕄
  | 0 => iprop(emp)
  | n + 1 => iprop((cred (tallyAt (readyCell ((47 - n) % 6) c) (2 * (47 - n) + 1) 1) ∗ cred (tallyAt (recvCell c) (2 * (47 - n) + 2) units))
      ∗ restCreds c n)

omit [FloatOps F] in
theorem creds_rest (c : Dev nD) : ∀ n, (Pipeline.launchCred (fun d => owed d n) c : sProp 𝕄) ⊢ restCreds c n
  | 0 => by
    rw [show (fun d : Dev nD => owed d 0) = fun _ => 0 from rfl, Pipeline.launchCred_zero]
    exact Entails.refl _
  | n + 1 => by
    rw [show (fun d : Dev nD => owed d (n + 1)) = fun d => (owed d n + oweRecv d (47 - n)) + oweReady d (47 - n) from rfl,
      Pipeline.launchCred_add, Pipeline.launchCred_add, restCreds]
    iintro ⟨⟨Hrest, Hv⟩, Hr⟩
    isplitr [Hrest]
    · isplitl [Hr]
      · iapply (Pipeline.launchCred_tallyAt (.reg (readySem ((47 - n) % 6))) (partner ((47 - n) % 6)) (partner ((47 - n) % 6))
          (partner_partner _) (partner_partner _) (2 * (47 - n) + 1) 1 c)
        iexact Hr
      · iapply (Pipeline.launchCred_tallyAt (recvCell c).2 (partner ((47 - n) % 6)) (partner ((47 - n) % 6))
          (partner_partner _) (partner_partner _) (2 * (47 - n) + 2) units c)
        iexact Hv
    · iapply (creds_rest c n)
      iexact Hrest

omit [FloatOps F] in
/-- Credits and tokens together are what the exchanges use up. -/
theorem tokens_rest (c : Dev nD) : ∀ n,
    iprop(restCreds c n ∗ bigSep (Finset.range n) fun j => (dealt c (47 - j) : sProp 𝕄)) ⊢ restToks c n
  | 0 => by rw [Finset.range_zero, bigSep_empty]; iintro ⟨-, -⟩; unfold restToks; iempintro
  | n + 1 => by
    rw [range_more, restCreds, restToks]
    iintro ⟨⟨Hc, Hcs⟩, Hd, Hds⟩
    isplitl [Hc Hd]
    · unfold stepToks dealt
      isplitl [Hc]; · iexact Hc
      iexact Hd
    · iapply (tokens_rest c n)
      isplitl [Hcs] <;> iassumption

/-! ## The launch -/

/-- The ghost state at launch: the staging buffers' rounds and the exchanges' rounds. -/
def launched : Ghost :=
  (initOf (Pipeline.cells cfgs cellOf_inj) (Pipeline.launchToks cfgs cellOf_inj),
    initOf (Pipeline.ownCells cfgs (0 : Fin 1) ownSem_facts) (Pipeline.ownToksOf cfgs (0 : Fin 1) ownSem_facts dutySet))

omit [FloatOps F] in
theorem launched_split (a b : Turns) : (ownU (a, b) : sProp 𝕄) ⊢ iprop(BI.own (stagingIn a) ∗ BI.own (turnsIn b)) :=
  BI.own_op_elim ((uEmb (nD := nD) (sig := sig) (Ix := ℕ) (Val := Elt F) (Name := ℕ) (U := Ghost) (Lvl := ℕ)).toEmb.op_of_mem
    (Prod.mk_mem_op (URA.mem_op_one a) (URA.mem_one_op b)))

/-- What a device has from it at first, -/
def first (c : Dev nD) : sProp 𝕄 :=
  iprop(Pipeline.ownGhost cfgs (0 : Fin 1) ownSem_facts turnsIn (turns m) c ∗ bigSep (Finset.range 48) fun j => minted c (47 - j))

/-- the places on its own semaphores, -/
def places (c : Dev nD) : sProp 𝕄 := bigSep Finset.univ fun k : Fin 8 => atPos turnsIn (cell (c, k)) 0 ∅ 0

/-- the marks that no semaphore has been used, -/
def marks : sProp 𝕄 := bigSep Finset.univ fun ck : Dev nD × Fin 8 => reached turnsIn (cell ck) 0

instance marks_persistent : BI.Persistent (marks (F := F)) := by unfold marks; infer_instance

/-- and what it has once the tokens have changed hands. -/
def then_ (c : Dev nD) : sProp 𝕄 :=
  iprop((∃ K, agreed m K) ∗ marks ∗ places c ∗ bigSep (Finset.range 48) fun j => dealt c (47 - j))

theorem set_up (c : Dev nD) :
    iprop(Pipeline.ownSems0 ownSem c ∗ first m c)
      ⊢ |={Set.univ}=> iprop((bigSep Finset.univ fun k => iprop(∃ κ : ℕ, cellInv turnsIn (turns m) κ (cell (c, k))))
          ∗ (bigSep Finset.univ fun k => iprop(atPos turnsIn (cell (c, k)) 0 ∅ 0 ∗ reached turnsIn (cell (c, k)) 0))
          ∗ bigSep (Finset.range 48) fun j => minted c (47 - j)) := by
  unfold first
  rw [Pipeline.ownGhost_eq]
  iintro ⟨Hz, ⟨Hst, Hat⟩, Htok⟩
  imod (Pipeline.ownCells_alloc cfgs (0 : Fin 1) ownSem_facts turnsIn (turns m) c) $$ [Hz Hst] with Hinv
  · isplitl [Hz] <;> iassumption
  imodintro
  isplitl [Hinv]; · iexact Hinv
  isplitl [Hat]; · iexact Hat
  iexact Htok

omit [FloatOps F] in
/-- What holds for good may be used for every device. -/
theorem for_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather :
    (bigSep Finset.univ fun c : Dev nD => iprop((bigSep Finset.univ fun k => iprop(∃ κ : ℕ, cellInv turnsIn (turns m) κ (cell (c, k))))
          ∗ (bigSep Finset.univ fun k => iprop(atPos turnsIn (cell (c, k)) 0 ∅ 0 ∗ reached turnsIn (cell (c, k)) 0))
          ∗ bigSep (Finset.range 48) fun j => minted c (47 - j)) : sProp 𝕄)
      ⊢ bigSep Finset.univ (then_ m) := by
  rw [bigSep_sep', bigSep_sep', ← bigSep_univ_prod (fun ck : Dev nD × Fin 8 => iprop(∃ κ : ℕ, cellInv turnsIn (turns m) κ (cell ck))),
    bigSep_congr (s := Finset.univ) (fun (c : Dev nD) _ => bigSep_sep' Finset.univ (fun k : Fin 8 => (atPos turnsIn (cell (c, k)) 0 ∅ 0 : sProp 𝕄)) (fun k => reached turnsIn (cell (c, k)) 0)),
    bigSep_sep', ← bigSep_univ_prod (fun ck : Dev nD × Fin 8 => (reached turnsIn (cell ck) 0 : sProp 𝕄))]
  iintro ⟨HI, ⟨Hat, #HR⟩, Htok⟩
  ihave HK := (BI.bigSep_exists_pi Finset.univ (fun (ck : Dev nD × Fin 8) (κ : ℕ) => (cellInv turnsIn (turns m) κ (cell ck) : sProp 𝕄))) $$ HI
  icases HK with ⟨%K, #HI⟩
  ihave Htk := (deal_around (F := F) 48) $$ Htok
  iapply (for_each (R := iprop(agreed m K ∗ marks (F := F)))
    (Φ := fun c : Dev nD => iprop(places c ∗ bigSep (Finset.range 48) fun j => dealt c (47 - j))) fun c _ => by
      unfold then_
      iintro ⟨⟨#Ha, #Hm⟩, Hp, Ht⟩
      isplitr; · iexists K; iexact Ha
      isplitr; · iexact Hm
      isplitl [Hp] <;> iassumption)
  isplitr
  · unfold agreed marks
    isplitr; · iexact HI
    iexact HR
  · rw [bigSep_sep']
    unfold places
    isplitl [Hat]; · iexact Hat
    iexact Htk

theorem all_set_up : (bigSep Finset.univ fun c => iprop(Pipeline.ownSems0 ownSem c ∗ first m c) : sProp 𝕄)
    ⊢ |={Set.univ}=> bigSep Finset.univ (then_ m) :=
  ((bigSep_mono fun c _ => set_up m c).trans (bigSep_fupd _ _)).trans (BI.fupd_mono (gather m))

omit [FloatOps F] in
theorem mark_at (ck : Dev nD × Fin 8) : (marks (F := F) : sProp 𝕄) ⊢ reached turnsIn (cell ck) 0 := by
  unfold marks; exact bigSep_elim (Finset.mem_univ ck)

omit [FloatOps F] in
theorem mark_ready (c : Dev nD) {s : ℕ} (hs : s < 6) : (marks (F := F) : sProp 𝕄) ⊢ reached turnsIn (readyCell s c) 0 := by
  have h := mark_at (F := F) (c, ⟨s, by omega⟩)
  rwa [show cell (c, (⟨s, by omega⟩ : Fin 8)) = readyCell s c from by unfold cell ownSem; rw [if_pos hs]] at h

/-- Before the first point a device holds all that the points need. -/
theorem ready_first (c : Dev nD) :
    iprop(levAts levelled level ∗ Pipeline.launchCred (fun d => owed d 48) c ∗ then_ m c) ⊢ ready m c 0 := by
  unfold then_ ready along standing places
  rw [fin8_sep]
  iintro ⟨#Hlv, Hcr, HK, #Hm, ⟨H0, H1, H2, H3, H4, H5, H6, H7⟩, Hd⟩
  ihave Hc := (creds_rest (F := F) c 48) $$ Hcr
  isplitl [HK]; · iexact HK
  isplitr; · iexact Hlv
  isplitl [H6 H7 Hc Hd]
  · isplitl [H6]
    · isplitl [H6]; · iexact H6
      iapply (mark_at (F := F) (c, 6)); iexact Hm
    isplitl [H7]
    · isplitl [H7]; · iexact H7
      iapply (mark_at (F := F) (c, 7)); iexact Hm
    iapply (tokens_rest c 48)
    isplitl [Hc]; · iexact Hc
    iexact Hd
  isplitl [H0]
  · isplitl [H0]; · iexact H0
    iapply (mark_ready (partner 0 c) (s := 0) (by decide)); iexact Hm
  isplitl [H1]
  · isplitl [H1]; · iexact H1
    iapply (mark_ready (partner 1 c) (s := 1) (by decide)); iexact Hm
  isplitl [H2]
  · isplitl [H2]; · iexact H2
    iapply (mark_ready (partner 2 c) (s := 2) (by decide)); iexact Hm
  isplitl [H3]
  · isplitl [H3]; · iexact H3
    iapply (mark_ready (partner 3 c) (s := 3) (by decide)); iexact Hm
  isplitl [H4]
  · isplitl [H4]; · iexact H4
    iapply (mark_ready (partner 4 c) (s := 4) (by decide)); iexact Hm
  · isplitl [H5]; · iexact H5
    iapply (mark_ready (partner 5 c) (s := 5) (by decide)); iexact Hm

theorem start_intro (c : Dev nD) :
    iprop(Pipeline.unscopedRestP Pipeline.Prefetch.none cfg0.spec c (fun b => m ((c : Thread nD τ).loc b)) ∗ unscopedSems0 c
        ∗ levAts levelled level ∗ Pipeline.launchCred (fun d => owed d 48) c ∗ prngReg c (ρ c) ∗ then_ m c)
      ⊢ |={Set.univ}=> iprop(ready m c 0 ∗ emp) := by
  iintro ⟨-, -, Hlv, Hcr, -, Ht⟩
  imodintro
  isplitl
  · iapply (ready_first m c)
    isplitl [Hlv]; · iexact Hlv
    isplitl [Hcr] <;> iassumption
  · iempintro

theorem enter (c : Dev nD) :
    iprop(ready m c 0 ∗ Pipeline.prefHeld Pipeline.Prefetch.none c (fun _ => fullShare.right) (fun k => k.elim0) ∗ Pipeline.scopedRest cfg0.spec c)
      ⊢ (dats m 0 c).Φ 0 := by
  rw [show (dats m 0 c).Φ 0 = between m c 0 from rfl, show (Pipeline.scopedRest cfg0.spec c : sProp 𝕄) = _ from scopedRest0_eq c]
  unfold between
  rw [if_pos (by decide)]
  iintro ⟨Hr, -, ⟨%f, Hw⟩, ⟨%g, Hl⟩⟩
  isplitl [Hw Hl]
  · isplitl [Hw]
    · iexists f; rw [workPts_eq]; iexact Hw
    · iexists g; rw [landPts_eq]; iexact Hl
  iexact Hr

theorem leave (c : Dev nD) :
    (dats m 0 c).Φ (Fin.last cfg0.N) ⊢ iprop(emp ∗ Pipeline.ownSems0 ownSem c ∗ Pipeline.scopedRest cfg0.spec c) := by
  rw [show (dats m 0 c).Φ (Fin.last cfg0.N) = between m c 8 from congrArg (between m c) N_0,
    show (Pipeline.scopedRest cfg0.spec c : sProp 𝕄) = _ from scopedRest0_eq c]
  unfold between
  rw [if_neg (by decide)]
  iintro ⟨⟨⟨%f, Hw⟩, ⟨%g, Hl⟩⟩, Hz⟩
  isplitr; · iempintro
  isplitl [Hz]; · unfold atRest Pipeline.ownSems0; iexact Hz
  isplitl [Hw]
  · iexists f; rw [← workPts_eq]; iexact Hw
  · iexists g; rw [← landPts_eq]; iexact Hl

theorem staging_waits (c : Dev nD) : (levAts levelled level : sProp 𝕄) ⊢ Pipeline.cellsWaits cfgs (dats m) 0 0 c :=
  Pipeline.cellsWaits_intro cfgs (dats m) 0 0 c fun w s t =>
    mayWait_owed c _ 0 (48 - 6 * t.val) (by omega) (by omega)

/-! ## The run -/

/-- An array's contents after the run. -/
def finalAt (c : Dev nD) (w : Fin cfg0.W) : Buf (Elt F) ((cfg0.win w).arr.view.loc (c : Thread nD τ)) := (dats m 0 c).arrAt w cfg0.N

theorem run_main : θ_run defs (onTc (τ := τ) (main (F := F))) (s₀ m ρ) (fun r =>
    (∀ c : Dev nD, ∀ w : Fin cfg0.W, r.2.mem ((cfg0.win w).arr.view.loc (c : Thread nD τ)) = finalAt m c w) ∧ r.2.sem = fun _ => 0) :=
  Pipeline.θ_run_region_owing_pf (fun p => (cfgs p).toPCfg) (fun p => (cfgs p).toPCfg_adm) (dats m) 0 cellOf_inj (0 : Fin 1)
    winFacts0.to₀ ownSem_facts (Pipeline.PreFacts.none _) stagingIn defs₀ noCalls m ρ main
    (hmain := fun _ => rfl)
    (hbody := body_obligation m) (hne := block_pos0) (harr := arr_whole0) (hstage := stage_whole0) (hshare := share_full m)
    (hdistinct := winFacts0.arr_inj)
    (O₀ := fun d => owed d 48) (howed₀ := fun _ => rfl)
    (howedN := fun c => by show owed c (48 - 6 * cfg0.N) = 0; rw [show cfg0.N = 8 from N_0]; rfl)
    (L := levelled) (lv := level) (hL := levelled_of_ne) (hwaits := staging_waits m)
    (G := first m) (G' := then_ m) (u₀ := launched)
    (hu₀ := by
      unfold launched
      iintro Hu
      ihave H := (launched_split _ _) $$ Hu
      icases H with ⟨HP, HX⟩
      imod (Pipeline.fund_own cfgs (0 : Fin 1) ownSem_facts turnsIn (turns m) (Pipeline.ownToksOf cfgs (0 : Fin 1) ownSem_facts dutySet)) $$ HX with ⟨Hx, Htok⟩
      ihave Htk := (Entails.of_eq (Pipeline.bigSep_ownToksOf cfgs (0 : Fin 1) ownSem_facts turnsIn dutySet)) $$ Htok
      imodintro
      isplitl [HP]; · iexact HP
      unfold first; rw [bigSep_sep', ← bigSep_congr (s := Finset.univ) fun (c : Dev nD) _ => duties_minted (F := F) c]
      isplitl [Hx] <;> iassumption)
    (hglob := all_set_up m)
    (hA := fun _ _ => rfl) (hpf := fun _ k => k.elim0)
    (X := fun c => ready m c 0) (Y := fun _ => iprop(emp)) (Z := fun _ => iprop(emp))
    (hX := start_intro m ρ) (hin := enter m) (hout := leave m)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide) hs⟩)

end Cert.Proof

end
-- ==== Proof.Frames.lean ====
/-
  The frames: the kernel, at the bits and at the extended reals, and the reference run to the end, their arguments as they
  were and every semaphore at zero.
-/
module

public import proofs.«01_k».proof.Defs
public import proofs.«01_k».proof.Proof.Region
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem
open Idealize.ShloMosaic.TcCoe

/-- The argument array is only read. -/
theorem finalAt_arg {F : FTy → Type} [FloatOps F] (m) (c : Dev Cert.KernelIdeal.nD) :
    finalAt (F := F) m c 0 = m ((c : Thread Cert.KernelIdeal.nD Cert.KernelIdeal.τ).loc Cert.KernelIdeal.main_arg0) :=
  (dats (F := F) m 0 c).arrAt_in 0 rfl _

theorem frame_kernelIdeal : Cert.quiescent_KernelIdeal := fun m ρ _ =>
  (θ_run Cert.KernelIdeal.defs _ _).mono (fun _ h => ⟨fun c => (h.1 c 0).trans (finalAt_arg m c), h.2⟩) (run_main (F := Ideal) m ρ)

/-- At the bits the kernel's program is the same text as the idealized one's. -/
theorem bodies_same : Cert.Kernel.defs₀ (F := Bits) = Cert.KernelIdeal.defs₀ (F := Bits) :=
  congrArg Defs.onTc (funext fun l => funext fun a => by
    obtain ⟨l, hl⟩ := l
    obtain rfl : l = 0 := Nat.lt_one_iff.mp hl
    obtain ⟨t, s⟩ := a
    rfl)

theorem programs_same : Cert.Kernel.defs (F := Bits) = Cert.KernelIdeal.defs (F := Bits) :=
  congrArg (Pipeline.defs Cert.KernelIdeal.pcfgs) bodies_same

theorem frame_kernel : Cert.quiescent_Kernel := fun m ρ _ => by
  rw [programs_same]
  exact (θ_run Cert.KernelIdeal.defs _ _).mono (fun _ h => ⟨fun c => (h.1 c 0).trans (finalAt_arg m c), h.2⟩) (run_main (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Network.lean ====
/-
  The bitonic sorting network on a sequence of 2^15 numbers, without any program. A sweep at a distance compares every
  element with the one that lies so far above or below it and keeps the smaller or the larger of the two. Sweeps at halving
  distances merge: a block of which, for every threshold, the elements above the threshold form one interval or the
  complement of one comes out sorted. So it is enough to look at predicates: a minimum is above a threshold when both
  numbers are, a maximum when either is. Merging blocks of 2, 4, 8, … elements in directions that alternate sorts the whole.
-/
module

public import proofs.«01_k».proof.Defs

@[expose] public section

noncomputable section

namespace Cert.Proof

/-! ## Sweeps -/

/-- The element with which element `n` is compared at distance `d`. -/
def other (d n : ℕ) : ℕ := if n / d % 2 = 0 then n + d else n - d

/-- Whether element `n` keeps the smaller number: the lower of the two does, where the order is to ascend. -/
def keepsMin (d : ℕ) (up : ℕ → Bool) (n : ℕ) : Bool := decide (n / d % 2 = 0) == up n

/-- One sweep at distance `d`; `up n` says that the order at element `n` is to ascend. -/
def sweep {α : Type} [LinearOrder α] (d : ℕ) (up : ℕ → Bool) (a : ℕ → α) (n : ℕ) : α :=
  if keepsMin d up n then min (a n) (a (other d n)) else max (a n) (a (other d n))

/-- Sweeps at the distances 2^(q-1), …, 2, 1. -/
def merge {α : Type} [LinearOrder α] (up : ℕ → Bool) : ℕ → (ℕ → α) → ℕ → α
  | 0, a => a
  | q + 1, a => merge up q (sweep (2 ^ q) up a)

/-- The direction of block `t` among the blocks of 2^q elements. Inside a device's 2^12 elements the direction alternates
    from block to block and is turned round on the devices of odd position; then it alternates until the end. -/
def ascends (q t : ℕ) : Bool :=
  if q < 12 then decide (t % 2 = 0) != decide (t / 2 ^ (12 - q) % 2 = 1)
  else if q < 15 then decide (t % 2 = 0) else true

/-- The direction at element `n` while blocks of 2^q elements are made. -/
def dirAt (q n : ℕ) : Bool := ascends q (n / 2 ^ q)

/-- The first `q` levels of the network. -/
def network {α : Type} [LinearOrder α] (a : ℕ → α) : ℕ → ℕ → α
  | 0 => a
  | q + 1 => merge (dirAt (q + 1)) (q + 1) (network a q)

/-! ## Positions inside a block -/

theorem place_div {m i : ℕ} (k : ℕ) (hi : i < m) : (k * m + i) / m = k := by
  rw [Nat.add_comm, Nat.add_mul_div_right _ _ (by omega), Nat.div_eq_of_lt hi, Nat.zero_add]

theorem other_low {m i : ℕ} (t : ℕ) (hi : i < m) : other m (2 * t * m + i) = (2 * t + 1) * m + i := by
  unfold other
  rw [place_div _ hi, if_pos (by omega)]
  ring

theorem other_high {m i : ℕ} (t : ℕ) (hi : i < m) : other m ((2 * t + 1) * m + i) = 2 * t * m + i := by
  unfold other
  rw [place_div _ hi, if_neg (by omega), Nat.add_mul]
  omega

theorem keeps_low {m i : ℕ} (t : ℕ) (up : ℕ → Bool) (hi : i < m) :
    keepsMin m up (2 * t * m + i) = up (2 * t * m + i) := by
  unfold keepsMin
  rw [place_div _ hi]
  simp

theorem keeps_high {m i : ℕ} (t : ℕ) (up : ℕ → Bool) (hi : i < m) :
    keepsMin m up ((2 * t + 1) * m + i) = !up ((2 * t + 1) * m + i) := by
  unfold keepsMin
  rw [place_div _ hi]
  simp

/-- A block of 2^(q+1) elements is its lower half followed by its upper half. -/
theorem low_half (q t i : ℕ) : t * 2 ^ (q + 1) + i = 2 * t * 2 ^ q + i := by rw [pow_succ]; ring

theorem high_half (q t i : ℕ) : t * 2 ^ (q + 1) + (2 ^ q + i) = (2 * t + 1) * 2 ^ q + i := by rw [pow_succ]; ring

/-! ## Sweeps of predicates -/

/-- One sweep of a predicate: both where the smaller number is kept, either where the larger one is. -/
def cross (d : ℕ) (up : ℕ → Bool) (P : ℕ → Prop) (n : ℕ) : Prop :=
  if keepsMin d up n then P n ∧ P (other d n) else P n ∨ P (other d n)

/-- Sweeps of a predicate at the distances 2^(q-1), …, 2, 1. -/
def crosses (up : ℕ → Bool) : ℕ → (ℕ → Prop) → ℕ → Prop
  | 0, P => P
  | q + 1, P => crosses up q (cross (2 ^ q) up P)

theorem above_sweep {α : Type} [LinearOrder α] (d : ℕ) (up : ℕ → Bool) (a : ℕ → α) (x : α) :
    (fun n => x < sweep d up a n) = cross d up (fun n => x < a n) := by
  funext n
  unfold sweep cross
  split
  · exact propext lt_min_iff
  · exact propext lt_max_iff

theorem above_merge {α : Type} [LinearOrder α] (up : ℕ → Bool) (q : ℕ) (a : ℕ → α) (x : α) :
    (fun n => x < merge up q a n) = crosses up q (fun n => x < a n) := by
  induction q generalizing a with
  | zero => rfl
  | succ q ih => rw [merge, crosses, ih, above_sweep]

/-- Turning the directions round and negating the predicate negates the outcome. -/
theorem cross_not (d : ℕ) (up : ℕ → Bool) (P : ℕ → Prop) :
    cross d (fun n => !up n) (fun n => ¬P n) = fun n => ¬cross d up P n := by
  funext n
  apply propext
  have e : keepsMin d (fun n => !up n) n = !keepsMin d up n := by
    show (decide (n / d % 2 = 0) == !up n) = !(decide (n / d % 2 = 0) == up n)
    cases up n <;> cases decide (n / d % 2 = 0) <;> rfl
  unfold cross
  rw [e]
  cases keepsMin d up n
  · exact not_or.symm
  · exact not_and_or.symm

theorem crosses_not (up : ℕ → Bool) (q : ℕ) (P : ℕ → Prop) :
    crosses (fun n => !up n) q (fun n => ¬P n) = fun n => ¬crosses up q P n := by
  induction q generalizing P with
  | zero => rfl
  | succ q ih => rw [crosses, cross_not, ih, crosses]

theorem cross_low {m i : ℕ} (t : ℕ) (up : ℕ → Bool) (P : ℕ → Prop) (hi : i < m) (hu : up (2 * t * m + i) = true) :
    cross m up P (2 * t * m + i) ↔ P (2 * t * m + i) ∧ P ((2 * t + 1) * m + i) := by
  unfold cross
  rw [keeps_low _ _ hi, hu, if_pos rfl, other_low _ hi]

theorem cross_high {m i : ℕ} (t : ℕ) (up : ℕ → Bool) (P : ℕ → Prop) (hi : i < m)
    (hu : up ((2 * t + 1) * m + i) = true) :
    cross m up P ((2 * t + 1) * m + i) ↔ P ((2 * t + 1) * m + i) ∨ P (2 * t * m + i) := by
  unfold cross
  rw [keeps_high _ _ hi, hu, if_neg (by decide), other_high _ hi]

/-! ## Merging one block -/

/-- On the `m` elements from `B` on the predicate holds on one interval, or off one interval. -/
def Bitonic (P : ℕ → Prop) (B m : ℕ) : Prop :=
  ∃ l r, l ≤ r ∧ r ≤ m ∧ ((∀ i < m, (P (B + i) ↔ l ≤ i ∧ i < r)) ∨ (∀ i < m, (P (B + i) ↔ ¬(l ≤ i ∧ i < r))))

theorem Bitonic.not {P : ℕ → Prop} {B m : ℕ} (h : Bitonic P B m) : Bitonic (fun n => ¬P n) B m := by
  obtain ⟨l, r, h1, h2, h⟩ := h
  refine ⟨l, r, h1, h2, ?_⟩
  rcases h with h | h
  · exact Or.inr fun i hi => not_congr (h i hi)
  · exact Or.inl fun i hi => (not_congr (h i hi)).trans not_not

/-- The predicate is constant on a block: so it stays. -/
theorem crosses_const (up : ℕ → Bool) (c : Prop) (q t : ℕ) (P : ℕ → Prop)
    (h : ∀ i < 2 ^ q, (P (t * 2 ^ q + i) ↔ c)) : ∀ i < 2 ^ q, (crosses up q P (t * 2 ^ q + i) ↔ c) := by
  induction q generalizing P t with
  | zero => exact h
  | succ q ih =>
    have hp : 2 ^ (q + 1) = 2 ^ q + 2 ^ q := by rw [pow_succ]; ring
    have hl : ∀ i < 2 ^ q, (P (2 * t * 2 ^ q + i) ↔ c) := fun i hi => by
      rw [← low_half]; exact h i (by omega)
    have hh : ∀ i < 2 ^ q, (P ((2 * t + 1) * 2 ^ q + i) ↔ c) := fun i hi => by
      rw [← high_half]; exact h _ (by omega)
    have cl : ∀ i < 2 ^ q, (cross (2 ^ q) up P (2 * t * 2 ^ q + i) ↔ c) := fun i hi => by
      unfold cross
      rw [other_low _ hi]
      split <;> simp [hl i hi, hh i hi]
    have ch : ∀ i < 2 ^ q, (cross (2 ^ q) up P ((2 * t + 1) * 2 ^ q + i) ↔ c) := fun i hi => by
      unfold cross
      rw [other_high _ hi]
      split <;> simp [hl i hi, hh i hi]
    intro i hi
    rw [crosses]
    by_cases hc : i < 2 ^ q
    · rw [low_half]; exact ih _ _ cl i hc
    · obtain ⟨j, rfl⟩ := Nat.exists_eq_add_of_le (Nat.le_of_not_lt hc)
      rw [high_half]; exact ih _ _ ch j (by omega)

/-- A sweep at half the length of a bitonic block leaves one half constant and the other half bitonic. -/
theorem half_clean (m t : ℕ) (up : ℕ → Bool) (P : ℕ → Prop)
    (hl : ∀ i < m, up (2 * t * m + i) = true) (hh : ∀ i < m, up ((2 * t + 1) * m + i) = true)
    (h : Bitonic P (2 * t * m) (m + m)) :
    ((∀ i < m, (cross m up P (2 * t * m + i) ↔ False)) ∧ Bitonic (cross m up P) ((2 * t + 1) * m) m) ∨
    ((∀ i < m, (cross m up P ((2 * t + 1) * m + i) ↔ True)) ∧ Bitonic (cross m up P) (2 * t * m) m) := by
  have hi' : ∀ i, (2 * t + 1) * m + i = 2 * t * m + (m + i) := fun i => by ring
  obtain ⟨l, r, h1, h2, h⟩ := h
  rcases h with h | h
  · have e1 : ∀ i < m, (cross m up P (2 * t * m + i) ↔ (l ≤ i ∧ i < r) ∧ (l ≤ m + i ∧ m + i < r)) := fun i hi => by
      rw [cross_low _ _ _ hi (hl i hi), hi', h i (by omega), h (m + i) (by omega)]
    have e2 : ∀ i < m, (cross m up P ((2 * t + 1) * m + i) ↔ (l ≤ m + i ∧ m + i < r) ∨ (l ≤ i ∧ i < r)) := fun i hi => by
      rw [cross_high _ _ _ hi (hh i hi), hi', h i (by omega), h (m + i) (by omega)]
    by_cases hw : r - l ≤ m
    · refine Or.inl ⟨fun i hi => (e1 i hi).trans (iff_false_intro (by omega)), ?_⟩
      rcases Nat.lt_or_ge m r with hr | hr
      · rcases Nat.lt_or_ge l m with hl' | hl'
        · exact ⟨r - m, l, by omega, by omega, Or.inr fun i hi => (e2 i hi).trans (by omega)⟩
        · exact ⟨l - m, r - m, by omega, by omega, Or.inl fun i hi => (e2 i hi).trans (by omega)⟩
      · exact ⟨l, r, by omega, by omega, Or.inl fun i hi => (e2 i hi).trans (by omega)⟩
    · exact Or.inr ⟨fun i hi => (e2 i hi).trans (iff_true_intro (by omega)), l, r - m, by omega, by omega,
        Or.inl fun i hi => (e1 i hi).trans (by omega)⟩
  · have e1 : ∀ i < m, (cross m up P (2 * t * m + i) ↔ ¬(l ≤ i ∧ i < r) ∧ ¬(l ≤ m + i ∧ m + i < r)) := fun i hi => by
      rw [cross_low _ _ _ hi (hl i hi), hi', h i (by omega), h (m + i) (by omega)]
    have e2 : ∀ i < m, (cross m up P ((2 * t + 1) * m + i) ↔ ¬(l ≤ m + i ∧ m + i < r) ∨ ¬(l ≤ i ∧ i < r)) := fun i hi => by
      rw [cross_high _ _ _ hi (hh i hi), hi', h i (by omega), h (m + i) (by omega)]
    by_cases hw : r - l ≤ m
    · refine Or.inr ⟨fun i hi => (e2 i hi).trans (iff_true_intro (by omega)), ?_⟩
      rcases Nat.lt_or_ge m r with hr | hr
      · rcases Nat.lt_or_ge l m with hl' | hl'
        · exact ⟨r - m, l, by omega, by omega, Or.inl fun i hi => (e1 i hi).trans (by omega)⟩
        · exact ⟨l - m, r - m, by omega, by omega, Or.inr fun i hi => (e1 i hi).trans (by omega)⟩
      · exact ⟨l, r, by omega, by omega, Or.inr fun i hi => (e1 i hi).trans (by omega)⟩
    · exact Or.inl ⟨fun i hi => (e1 i hi).trans (iff_false_intro (by omega)), l, r - m, by omega, by omega,
        Or.inr fun i hi => (e2 i hi).trans (by omega)⟩

/-- Merging a bitonic block upward moves the predicate to the block's end. -/
theorem crosses_up (q t : ℕ) (up : ℕ → Bool) (P : ℕ → Prop) (hu : ∀ i < 2 ^ q, up (t * 2 ^ q + i) = true)
    (h : Bitonic P (t * 2 ^ q) (2 ^ q)) :
    ∃ k, k ≤ 2 ^ q ∧ ∀ i < 2 ^ q, (crosses up q P (t * 2 ^ q + i) ↔ k ≤ i) := by
  induction q generalizing P t with
  | zero =>
    by_cases hp : P (t * 2 ^ 0 + 0)
    · refine ⟨0, by omega, fun i hi => ?_⟩
      obtain rfl : i = 0 := by omega
      exact iff_of_true hp (by omega)
    · refine ⟨1, by omega, fun i hi => ?_⟩
      obtain rfl : i = 0 := by omega
      exact iff_of_false hp (by omega)
  | succ q ih =>
    have hp : 2 ^ (q + 1) = 2 ^ q + 2 ^ q := by rw [pow_succ]; ring
    have ul : ∀ i < 2 ^ q, up (2 * t * 2 ^ q + i) = true := fun i hi => by
      rw [← low_half]; exact hu i (by omega)
    have uh : ∀ i < 2 ^ q, up ((2 * t + 1) * 2 ^ q + i) = true := fun i hi => by
      rw [← high_half]; exact hu _ (by omega)
    have hb : Bitonic P (2 * t * 2 ^ q) (2 ^ q + 2 ^ q) := by
      have e : t * 2 ^ (q + 1) = 2 * t * 2 ^ q := low_half q t 0
      rw [← hp, ← e]; exact h
    rcases half_clean (2 ^ q) t up P ul uh hb with ⟨hc, hr⟩ | ⟨hc, hr⟩
    · obtain ⟨k, hk, hs⟩ := ih (2 * t + 1) _ uh hr
      have hz := crosses_const up False q (2 * t) _ hc
      refine ⟨2 ^ q + k, by omega, fun i hi => ?_⟩
      rw [crosses]
      by_cases hlt : i < 2 ^ q
      · rw [low_half]; exact (hz i hlt).trans (iff_of_false id (by omega))
      · obtain ⟨j, rfl⟩ := Nat.exists_eq_add_of_le (Nat.le_of_not_lt hlt)
        rw [high_half]; exact (hs j (by omega)).trans (by omega)
    · obtain ⟨k, hk, hs⟩ := ih (2 * t) _ ul hr
      have hz := crosses_const up True q (2 * t + 1) _ hc
      refine ⟨k, by omega, fun i hi => ?_⟩
      rw [crosses]
      by_cases hlt : i < 2 ^ q
      · rw [low_half]; exact hs i hlt
      · obtain ⟨j, rfl⟩ := Nat.exists_eq_add_of_le (Nat.le_of_not_lt hlt)
        rw [high_half]; exact (hz j (by omega)).trans (iff_of_true trivial (by omega))

/-- Merging a bitonic block downward moves the predicate to the block's start. -/
theorem crosses_down (q t : ℕ) (up : ℕ → Bool) (P : ℕ → Prop) (hu : ∀ i < 2 ^ q, up (t * 2 ^ q + i) = false)
    (h : Bitonic P (t * 2 ^ q) (2 ^ q)) :
    ∃ k, k ≤ 2 ^ q ∧ ∀ i < 2 ^ q, (crosses up q P (t * 2 ^ q + i) ↔ i < k) := by
  obtain ⟨k, hk, hs⟩ := crosses_up q t (fun n => !up n) (fun n => ¬P n) (fun i hi => by rw [hu i hi]; rfl) h.not
  refine ⟨k, hk, fun i hi => ?_⟩
  have := hs i hi
  rw [crosses_not] at this
  rw [← not_le, ← this, not_not]

/-! ## The network sorts -/

/-- The predicate's shape on a sorted block: at the end of an ascending block, at the start of a descending one. -/
def Stepped (q t : ℕ) (P : ℕ → Prop) : Prop :=
  ∃ k, k ≤ 2 ^ q ∧ ∀ i < 2 ^ q, (P (t * 2 ^ q + i) ↔ if ascends q t then k ≤ i else i < k)

/-- The two halves of a block are sorted in opposite directions. -/
theorem ascends_halves (q t : ℕ) (hq : q < 15) : ascends q (2 * t + 1) = !ascends q (2 * t) := by
  unfold ascends
  by_cases h : q < 12
  · obtain ⟨e, he⟩ : ∃ e, 12 - q = e + 1 := ⟨11 - q, by omega⟩
    have : (2 * t + 1) / 2 ^ (12 - q) = 2 * t / 2 ^ (12 - q) := by
      rw [he, pow_succ, Nat.mul_comm (2 ^ e) 2, ← Nat.div_div_eq_div_mul, ← Nat.div_div_eq_div_mul]
      congr 1
      omega
    rw [if_pos h, if_pos h, this]
    have h1 : decide ((2 * t + 1) % 2 = 0) = false := decide_eq_false (by omega)
    have h2 : decide (2 * t % 2 = 0) = true := decide_eq_true (by omega)
    rw [h1, h2]
    cases decide (2 * t / 2 ^ (12 - q) % 2 = 1) <;> rfl
  · rw [if_neg h, if_neg h, if_pos hq, if_pos hq]
    have h1 : decide ((2 * t + 1) % 2 = 0) = false := decide_eq_false (by omega)
    have h2 : decide (2 * t % 2 = 0) = true := decide_eq_true (by omega)
    rw [h1, h2]; rfl

/-- Two neighbours sorted in opposite directions form a bitonic block. -/
theorem bitonic_of_halves (q t : ℕ) (hq : q < 15) (P : ℕ → Prop) (hl : Stepped q (2 * t) P)
    (hh : Stepped q (2 * t + 1) P) : Bitonic P (t * 2 ^ (q + 1)) (2 ^ (q + 1)) := by
  have hp : 2 ^ (q + 1) = 2 ^ q + 2 ^ q := by rw [pow_succ]; ring
  obtain ⟨k, hk, hl⟩ := hl
  obtain ⟨k', hk', hh⟩ := hh
  rw [ascends_halves q t hq] at hh
  have key : ∀ (b : Bool), ascends q (2 * t) = b → ∀ i < 2 ^ (q + 1),
      (P (t * 2 ^ (q + 1) + i) ↔ if b then k ≤ i ∧ i < 2 ^ q + k' else ¬(k ≤ i ∧ i < 2 ^ q + k')) := by
    intro b hb i hi
    rw [hb] at hl hh
    by_cases hlt : i < 2 ^ q
    · rw [low_half, hl i hlt]
      cases b
      · simp only [Bool.false_eq_true, if_false]; omega
      · simp only [if_true]; omega
    · obtain ⟨j, rfl⟩ := Nat.exists_eq_add_of_le (Nat.le_of_not_lt hlt)
      rw [high_half, hh j (by omega)]
      cases b
      · simp only [Bool.not_false, Bool.false_eq_true, if_false, if_true]; omega
      · simp only [Bool.not_true, Bool.false_eq_true, if_false, if_true]; omega
  refine ⟨k, 2 ^ q + k', by omega, by omega, ?_⟩
  cases hb : ascends q (2 * t)
  · exact Or.inr fun i hi => by simpa using key false hb i hi
  · exact Or.inl fun i hi => by simpa using key true hb i hi

/-- After `q` levels every block of 2^q elements is sorted in its direction, at every threshold. -/
theorem network_stepped {α : Type} [LinearOrder α] (a : ℕ → α) (x : α) (q : ℕ) (hq : q ≤ 15) (t : ℕ) :
    Stepped q t (fun n => x < network a q n) := by
  induction q generalizing t with
  | zero =>
    by_cases hp : x < network a 0 (t * 2 ^ 0 + 0)
    · refine ⟨if ascends 0 t then 0 else 1, by split <;> omega, fun i hi => ?_⟩
      obtain rfl : i = 0 := by omega
      refine iff_of_true hp ?_
      split <;> omega
    · refine ⟨if ascends 0 t then 1 else 0, by split <;> omega, fun i hi => ?_⟩
      obtain rfl : i = 0 := by omega
      refine iff_of_false hp ?_
      split <;> omega
  | succ q ih =>
    have hb := bitonic_of_halves q t (by omega) _ (ih (by omega) (2 * t)) (ih (by omega) (2 * t + 1))
    have hd : ∀ i < 2 ^ (q + 1), dirAt (q + 1) (t * 2 ^ (q + 1) + i) = ascends (q + 1) t := fun i hi => by
      rw [dirAt, place_div _ hi]
    unfold Stepped
    rw [network, above_merge]
    cases ha : ascends (q + 1) t
    · simpa using crosses_down (q + 1) t _ _ (fun i hi => (hd i hi).trans ha) hb
    · simpa using crosses_up (q + 1) t _ _ (fun i hi => (hd i hi).trans ha) hb

/-- The whole network sorts the first 2^15 elements. -/
theorem network_sorted {α : Type} [LinearOrder α] (a : ℕ → α) {i j : ℕ} (hij : i ≤ j) (hj : j < 2 ^ 15) :
    network a 15 i ≤ network a 15 j := by
  by_contra hlt
  obtain ⟨k, -, hk⟩ := network_stepped a (network a 15 j) 15 le_rfl 0
  have hi := hk i (by omega)
  have hj := hk j hj
  rw [Nat.zero_mul, Nat.zero_add] at hi hj
  have e : ascends 15 0 = true := rfl
  rw [e, if_pos rfl] at hi hj
  exact lt_irrefl _ (hj.2 (le_trans (hi.1 (not_le.1 hlt)) hij))

/-! ## The network permutes -/

/-- `b` lists the numbers of `a` in another order, and those among the first 2^15 stay there. -/
def Permuted {α : Type} (a b : ℕ → α) : Prop :=
  ∃ σ : ℕ → ℕ, Function.Injective σ ∧ (∀ n < 2 ^ 15, σ n < 2 ^ 15) ∧ b = fun n => a (σ n)

theorem Permuted.refl {α : Type} (a : ℕ → α) : Permuted a a := ⟨id, fun _ _ h => h, fun _ h => h, rfl⟩

theorem Permuted.trans {α : Type} {a b c : ℕ → α} (h : Permuted a b) (h' : Permuted b c) : Permuted a c := by
  obtain ⟨σ, hi, hb, rfl⟩ := h
  obtain ⟨τ, hi', hb', rfl⟩ := h'
  exact ⟨fun n => σ (τ n), hi.comp hi', fun n hn => hb _ (hb' n hn), rfl⟩

/-- At a power of two below 2^15, comparing goes both ways and stays among the first 2^15 elements. -/
theorem other_facts (q n : ℕ) (hq : q < 15) :
    other (2 ^ q) (other (2 ^ q) n) = n ∧ (n < 2 ^ 15 → other (2 ^ q) n < 2 ^ 15) ∧
    (other (2 ^ q) n / 2 ^ q % 2 = 0 ↔ ¬n / 2 ^ q % 2 = 0) ∧ other (2 ^ q) n / 2 ^ (q + 1) = n / 2 ^ (q + 1) := by
  have hm : 0 < 2 ^ q := Nat.two_pow_pos q
  obtain ⟨t, i, hi, hn⟩ : ∃ t i, i < 2 ^ q ∧ (n = 2 * t * 2 ^ q + i ∨ n = (2 * t + 1) * 2 ^ q + i) := by
    refine ⟨n / 2 ^ q / 2, n % 2 ^ q, Nat.mod_lt _ hm, ?_⟩
    have hd := Nat.div_add_mod n (2 ^ q)
    have hd2 := Nat.div_add_mod (n / 2 ^ q) 2
    rcases Nat.mod_two_eq_zero_or_one (n / 2 ^ q) with h | h
    · left
      rw [h, Nat.add_zero] at hd2
      rw [hd2, Nat.mul_comm]; exact hd.symm
    · right
      rw [h] at hd2
      rw [hd2, Nat.mul_comm]; exact hd.symm
  have hp : 2 ^ (q + 1) = 2 ^ q + 2 ^ q := by rw [pow_succ]; ring
  have big : ∀ j < 2 ^ q + 2 ^ q, (2 * t * 2 ^ q + j) / 2 ^ (q + 1) = t := fun j hj => by
    rw [← low_half, place_div _ (by omega)]
  have hup : (2 * t + 1) * 2 ^ q + i = 2 * t * 2 ^ q + (2 ^ q + i) := by ring
  have bound : 2 * t * 2 ^ q + i < 2 ^ 15 → (2 * t + 1) * 2 ^ q + i < 2 ^ 15 := by
    intro h
    have ht : t < 2 ^ (14 - q) := by
      by_contra hc
      have := Nat.mul_le_mul_right (2 ^ (q + 1)) (Nat.le_of_not_lt hc)
      rw [← pow_add, show 14 - q + (q + 1) = 15 by omega] at this
      have e := low_half q t i
      omega
    have := Nat.mul_le_mul_right (2 ^ (q + 1)) (Nat.succ_le_of_lt ht)
    rw [← pow_add, show 14 - q + (q + 1) = 15 by omega, Nat.succ_mul] at this
    have e := low_half q t i
    omega
  rcases hn with rfl | rfl
  · rw [other_low _ hi, other_high _ hi, place_div _ hi, place_div _ hi, big i (by omega), hup, big _ (by omega), ← hup]
    exact ⟨rfl, bound, by omega, rfl⟩
  · rw [other_high _ hi, other_low _ hi, place_div _ hi, place_div _ hi, big i (by omega), hup, big _ (by omega), ← hup]
    exact ⟨rfl, fun h => by omega, by omega, rfl⟩

/-- A sweep whose direction is the same at both compared elements permutes. -/
theorem sweep_permuted {α : Type} [LinearOrder α] (q : ℕ) (hq : q < 15) (up : ℕ → Bool)
    (hu : ∀ n, up (other (2 ^ q) n) = up n) (a : ℕ → α) : Permuted a (sweep (2 ^ q) up a) := by
  obtain ⟨o, ho⟩ : ∃ o, o = other (2 ^ q) := ⟨_, rfl⟩
  have hoo : ∀ n, o (o n) = n := fun n => by rw [ho]; exact (other_facts q n hq).1
  have hu' : ∀ n, up (o n) = up n := fun n => by rw [ho]; exact hu n
  have hk : ∀ n, keepsMin (2 ^ q) up (o n) = !keepsMin (2 ^ q) up n := fun n => by
    have e : decide (o n / 2 ^ q % 2 = 0) = !decide (n / 2 ^ q % 2 = 0) := by
      rw [ho, ← decide_not]; exact decide_eq_decide.2 (other_facts q n hq).2.2.1
    unfold keepsMin
    rw [hu', e]
    cases up n <;> cases decide (n / 2 ^ q % 2 = 0) <;> rfl
  -- whether the two numbers change places, and where the number at each element then comes from
  let S : ℕ → Prop := fun n => if keepsMin (2 ^ q) up n then ¬a n ≤ a (o n) else ¬a (o n) ≤ a n
  have hS : ∀ n, S (o n) ↔ S n := fun n => by
    show (if _ then _ else _) ↔ (if _ then _ else _)
    rw [hk, hoo]
    cases keepsMin (2 ^ q) up n <;> simp
  classical
  let σ : ℕ → ℕ := fun n => if S n then o n else n
  have hσσ : ∀ n, σ (σ n) = n := by
    intro n
    by_cases c : S n
    · have e : σ n = o n := if_pos c
      rw [e]
      exact (if_pos ((hS n).2 c)).trans (hoo n)
    · have e : σ n = n := if_neg c
      rw [e, e]
  refine ⟨σ, Function.LeftInverse.injective (g := σ) hσσ, fun n hn => ?_, ?_⟩
  · have := (other_facts q n hq).2.1 hn
    rw [← ho] at this
    show (if S n then o n else n) < _
    split <;> assumption
  · funext n
    show sweep (2 ^ q) up a n = a (if (if _ then ¬_ else ¬_) then o n else n)
    unfold sweep
    rw [← ho]
    by_cases c : keepsMin (2 ^ q) up n = true
    · simp only [if_pos c]
      by_cases d : a n ≤ a (o n)
      · rw [min_eq_left d, if_neg (not_not.2 d)]
      · rw [min_eq_right (le_of_not_ge d), if_pos d]
    · simp only [if_neg c]
      by_cases d : a (o n) ≤ a n
      · rw [max_eq_left d, if_neg (not_not.2 d)]
      · rw [max_eq_right (le_of_not_ge d), if_pos d]

theorem merge_permuted {α : Type} [LinearOrder α] (q p : ℕ) (hq : q ≤ p) (hp : p ≤ 15) (a : ℕ → α) :
    Permuted a (merge (dirAt p) q a) := by
  induction q generalizing a with
  | zero => exact Permuted.refl a
  | succ q ih =>
    refine (sweep_permuted q (by omega) (dirAt p) (fun n => ?_) a).trans (ih (by omega) _)
    have h := (other_facts q n (by omega)).2.2.2
    unfold dirAt
    obtain ⟨e, rfl⟩ := Nat.exists_eq_add_of_le hq
    rw [pow_add, ← Nat.div_div_eq_div_mul, ← Nat.div_div_eq_div_mul, h]

theorem network_permuted {α : Type} [LinearOrder α] (a : ℕ → α) (q : ℕ) (hq : q ≤ 15) : Permuted a (network a q) := by
  induction q with
  | zero => exact Permuted.refl a
  | succ q ih => exact (ih (by omega)).trans (merge_permuted _ _ le_rfl hq _)

/-! ## Sorted rearrangements agree -/

/-- A sorted rearrangement of sorted numbers is the same list: otherwise too many numbers would lie on one side. -/
theorem sorted_unique {α : Type} [LinearOrder α] {N : ℕ} (y z : Fin N → α) (π : Fin N → Fin N)
    (hπ : Function.Injective π) (hy : Monotone y) (hz : Monotone z) (h : ∀ i, y i = z (π i)) (i : Fin N) : y i = z i := by
  rcases lt_trichotomy (y i) (z i) with hlt | heq | hgt
  · exfalso
    have hm : ∀ j ∈ Finset.Iic i, π j ∈ Finset.Iio i := fun j hj => by
      rw [Finset.mem_Iio]
      by_contra hc
      have h1 := hz (not_lt.1 hc)
      rw [← h j] at h1
      exact lt_irrefl _ (lt_of_lt_of_le hlt (h1.trans (hy (Finset.mem_Iic.1 hj))))
    have := Finset.card_le_card_of_injOn π hm hπ.injOn
    rw [Fin.card_Iic, Fin.card_Iio] at this
    omega
  · exact heq
  · exfalso
    have hm : ∀ j ∈ Finset.Ici i, π j ∈ Finset.Ioi i := fun j hj => by
      rw [Finset.mem_Ioi]
      by_contra hc
      have h1 := hz (not_lt.1 hc)
      rw [← h j] at h1
      exact lt_irrefl _ (lt_of_lt_of_le hgt ((hy (Finset.mem_Ici.1 hj)).trans h1))
    have := Finset.card_le_card_of_injOn π hm hπ.injOn
    rw [Fin.card_Ici, Fin.card_Ioi] at this
    omega

/-- A sorted rearrangement of the first 2^15 numbers is what the network makes of them. -/
theorem network_unique {α : Type} [LinearOrder α] (a : ℕ → α) (z : Fin (2 ^ 15) → α) (τ : Fin (2 ^ 15) → Fin (2 ^ 15))
    (hτ : Function.Injective τ) (hz : ∀ i, z i = a (τ i).val) (hm : Monotone z) (i : Fin (2 ^ 15)) :
    network a 15 i.val = z i := by
  obtain ⟨σ, hi, hb, he⟩ := network_permuted a 15 le_rfl
  let s : Fin (2 ^ 15) → Fin (2 ^ 15) := fun i => ⟨σ i.val, hb i.val i.isLt⟩
  have hs : Function.Injective s := fun i j h => Fin.ext (hi (congrArg Fin.val h))
  let t := Equiv.ofBijective τ (Finite.injective_iff_bijective.1 hτ)
  refine sorted_unique (fun i : Fin (2 ^ 15) => network a 15 i.val) z (fun i => t.symm (s i))
    (t.symm.injective.comp hs) (fun i j hij => network_sorted a hij j.isLt) hm (fun i => ?_) i
  have e : τ (t.symm (s i)) = s i := t.apply_symm_apply (s i)
  show network a 15 i.val = z (t.symm (s i))
  rw [hz, e, he]

end Cert.Proof

end
-- ==== Proof.Steps.lean ====
/-
  What one block's computation is at one element. Every trip of a sorting or merging loop compares each row of the block with
  the row at the trip's distance, and every exchange compares each element with the partner's element at the same place; the
  smaller or the larger number is kept. This module reads the program's payloads so, over the extended reals.
-/
module

public import proofs.«01_k».proof.Proof.Contents
public import proofs.«01_k».proof.Proof.Network
public import Idealize.ShloMosaic.Lib.Pointwise
public import Idealize.ShloMosaic.Lib.WordCmp
public import Idealize.ShloMosaic.Lib.SortNet.Bitonic

@[expose] public section

noncomputable section

namespace Cert.Proof

open Cert.KernelIdeal Cert.KernelIdeal.Gen
open Idealize.ShloMosaic
open Idealize.ShloMosaic.TcCoe

/-- The number in row `n` of a block, counted around, and in lane `l`. -/
def atRow (x : Blk Ideal) (n : ℕ) (l : Fin 128) : EReal := x (ix2 ⟨n % 4096, Nat.mod_lt _ (by decide)⟩ l)

/-! ## The program's words -/

/-- The program's test of a bit of the row's number. -/
theorem bit_test (r e : ℕ) (hr : r < 4096) (he : e ≤ 12) :
    IntOp.cmpi .eq (IntOp.andi (BitVec.ofNat 32 r) (BitVec.ofNat 32 (2 ^ e))) 0#32
      = BitVec.ofBool (decide (r / 2 ^ e % 2 = 0)) := by
  have hp : 2 ^ e ≤ 2 ^ 12 := Nat.pow_le_pow_right (by decide) he
  have h1 : (BitVec.ofNat 32 r &&& BitVec.ofNat 32 (2 ^ e) == 0#32) = decide (r / 2 ^ e % 2 = 0) := by
    rw [beq_eq_decide]
    apply decide_eq_decide.2
    rw [← BitVec.toNat_inj, BitVec.toNat_and, BitVec.toNat_ofNat, BitVec.toNat_ofNat, BitVec.toNat_ofNat,
      Nat.mod_eq_of_lt (show r < 2 ^ 32 by omega), Nat.mod_eq_of_lt (show 2 ^ e < 2 ^ 32 by omega),
      Nat.zero_mod, SortNet.and_two_pow_eq_zero_iff_testBit, Nat.testBit_eq_decide_div_mod_eq, decide_eq_false_iff_not]
    omega
  exact congrArg BitVec.ofBool h1

/-- Below the block's length a bit of the row counted around is a bit of the row. -/
theorem bit_mod (n e : ℕ) (he : e < 12) : n % 4096 / 2 ^ e % 2 = n / 2 ^ e % 2 := by
  obtain ⟨f, hf⟩ : ∃ f, 12 = e + 1 + f := ⟨11 - e, by omega⟩
  have h : (4096 : ℕ) = 2 ^ e * (2 * 2 ^ f) := by
    rw [show (4096 : ℕ) = 2 ^ 12 by norm_num, hf, pow_add, pow_add, pow_one, Nat.mul_assoc]
  rw [h, Nat.mod_mul_right_div_self, Nat.mod_mod_of_dvd _ (Dvd.intro _ rfl)]

/-- The distance of trip `i` in a sorting loop, and its complement in the block's length. -/
theorem sort_words : ∀ (k : Fin k0_t1_loop.trips) (i : Fin (k0_t2_loop k).trips),
    Scalar.shrui (Scalar.shli 2#32 (Scf.iv 0#32 1#32 k)) (Scalar.addi (Scf.iv 0#32 1#32 i) 1#32)
      = BitVec.ofNat 32 (2 ^ (k.val - i.val)) ∧
    Scalar.shli 2#32 (Scf.iv 0#32 1#32 k) = BitVec.ofNat 32 (2 ^ (k.val + 1)) := by decide

/-- The distance of trip `i` in each of the three merging loops. -/
theorem merge_words4 : ∀ i : Fin k0_t4_loop.trips,
    Scalar.shrui 4096#32 (Scalar.addi (Scf.iv 0#32 1#32 i) 1#32) = BitVec.ofNat 32 (2 ^ (11 - i.val)) := by decide
theorem merge_words5 : ∀ i : Fin k0_t5_loop.trips,
    Scalar.shrui 4096#32 (Scalar.addi (Scf.iv 0#32 1#32 i) 1#32) = BitVec.ofNat 32 (2 ^ (11 - i.val)) := by decide
theorem merge_words6 : ∀ i : Fin k0_t6_loop.trips,
    Scalar.shrui 4096#32 (Scalar.addi (Scf.iv 0#32 1#32 i) 1#32) = BitVec.ofNat 32 (2 ^ (11 - i.val)) := by decide

/-- The program's tests of the bits of the device's position. -/
theorem pos_set : ∀ c : Dev nD,
    Scalar.cmpi .ne (Scalar.andi (posWord c) 1#32) 0#32 = BitVec.ofBool (!decide (c.val % 2 = 0)) ∧
    Scalar.cmpi .ne (Scalar.andi (posWord c) 2#32) 0#32 = BitVec.ofBool (!decide (c.val / 2 % 2 = 0)) ∧
    Scalar.cmpi .ne (Scalar.andi (posWord c) 4#32) 0#32 = BitVec.ofBool (!decide (c.val / 4 % 2 = 0)) ∧
    Scalar.cmpi .ne (Scalar.andi (posWord c) 8#32) 0#32 = BitVec.ofBool (!true) := by decide

theorem pos_clear : ∀ c : Dev nD,
    Scalar.cmpi .eq (Scalar.andi (posWord c) 1#32) 0#32 = BitVec.ofBool (decide (c.val % 2 = 0)) ∧
    Scalar.cmpi .eq (Scalar.andi (posWord c) 2#32) 0#32 = BitVec.ofBool (decide (c.val / 2 % 2 = 0)) ∧
    Scalar.cmpi .eq (Scalar.andi (posWord c) 4#32) 0#32 = BitVec.ofBool (decide (c.val / 4 % 2 = 0)) ∧
    Scalar.cmpi .eq (Scalar.andi (posWord c) 8#32) 0#32 = BitVec.ofBool true := by decide

/-! ## Comparing rows -/

theorem pick_ofBool {α : Type} (b : Bool) (x y : α) : Scalar.select (BitVec.ofBool b) x y = if b then x else y := by
  cases b <;> rfl

theorem xor_not (b u : Bool) : IntOp.xori (BitVec.ofBool b) (BitVec.ofBool (!u)) = BitVec.ofBool (b == u) := by
  cases b <;> cases u <;> rfl

theorem xor_xor_one (b u : Bool) :
    IntOp.xori (IntOp.xori (BitVec.ofBool b) (BitVec.ofBool u)) 1#1 = BitVec.ofBool (b == u) := by
  cases b <;> cases u <;> rfl

/-- The row that two rotations and a choice by the row's bit bring to row `n`. -/
theorem partner_row (x : Blk Ideal) (e n : ℕ) (he : e < 12) (l : Fin 128) (d : BitVec 32) (hd : d = BitVec.ofNat 32 (2 ^ e))
    (h1 : (n % 4096 + 4096 - (Scalar.subi 4096#32 d).toNat % 4096) % 4096 < 4096)
    (h2 : (n % 4096 + 4096 - d.toNat % 4096) % 4096 < 4096) :
    Scalar.select (IntOp.cmpi .eq (IntOp.andi (BitVec.ofNat 32 (n % 4096)) d) 0#32)
        (x (ix2 ⟨(n % 4096 + 4096 - (Scalar.subi 4096#32 d).toNat % 4096) % 4096, h1⟩ l))
        (x (ix2 ⟨(n % 4096 + 4096 - d.toNat % 4096) % 4096, h2⟩ l))
      = atRow x (other (2 ^ e) n) l := by
  have hp : 2 ^ e ≤ 2 ^ 11 := Nat.pow_le_pow_right (by decide) (by omega)
  have h0 : 0 < 2 ^ e := Nat.two_pow_pos e
  have hd' : d.toNat = 2 ^ e := by rw [hd, BitVec.toNat_ofNat, Nat.mod_eq_of_lt (by omega)]
  have hs : (Scalar.subi 4096#32 d).toNat = 4096 - 2 ^ e := by
    show (4096#32 - d).toNat = _
    rw [BitVec.toNat_sub, hd']
    show (2 ^ 32 - 2 ^ e + 4096) % 2 ^ 32 = _
    omega
  rw [show IntOp.cmpi .eq (IntOp.andi (BitVec.ofNat 32 (n % 4096)) d) 0#32 = BitVec.ofBool (decide (n / 2 ^ e % 2 = 0)) by
    rw [hd, bit_test _ _ (Nat.mod_lt _ (by decide)) (by omega), bit_mod _ _ he], pick_ofBool]
  unfold atRow other
  by_cases hb : n / 2 ^ e % 2 = 0
  · rw [decide_eq_true hb, if_pos rfl]
    congr 2
    apply Fin.ext
    show (n % 4096 + 4096 - (Scalar.subi 4096#32 d).toNat % 4096) % 4096 = (if _ then _ else _) % 4096
    rw [hs, if_pos hb]
    omega
  · have hle : 2 ^ e ≤ n := by
      by_contra hc
      rw [Nat.div_eq_of_lt (by omega)] at hb
      exact hb rfl
    rw [decide_eq_false hb, if_neg (by decide)]
    congr 2
    apply Fin.ext
    show (n % 4096 + 4096 - d.toNat % 4096) % 4096 = (if _ then _ else _) % 4096
    rw [hd', if_neg hb]
    omega

/-- One trip of the device's own sort: the rows at distance 2^(k-i) in the order of the blocks of 2^(k+1) rows, which is
    turned round on the devices of odd position. -/
theorem sort_entry (c : Dev nD) (k : Fin k0_t1_loop.trips) (i : Fin (k0_t2_loop k).trips) (x : Blk Ideal) (n : ℕ)
    (l : Fin 128) :
    atRow (k0_pay4 c k i x) n l
      = if decide (n / 2 ^ (k.val - i.val) % 2 = 0)
            == (decide (n % 4096 / 2 ^ (k.val + 1) % 2 = 0) == decide (c.val % 2 = 0))
        then min (atRow x n l) (atRow x (other (2 ^ (k.val - i.val)) n) l)
        else max (atRow x n l) (atRow x (other (2 ^ (k.val - i.val)) n) l) := by
  have hk : k.val < 12 := lt_of_lt_of_eq k.isLt trips_t1
  obtain ⟨hd, hk2⟩ := sort_words k i
  rw [← partner_row x (k.val - i.val) n (by omega) l _ hd (Nat.mod_lt _ (by decide)) (Nat.mod_lt _ (by decide)),
    ← pick_ofBool, ← xor_xor_one, ← xor_not, ← (pos_set c).1]
  rw [show BitVec.ofBool (decide (n / 2 ^ (k.val - i.val) % 2 = 0)) = IntOp.cmpi .eq (IntOp.andi (BitVec.ofNat 32 (n % 4096))
      (Scalar.shrui (Scalar.shli 2#32 (Scf.iv 0#32 1#32 k)) (Scalar.addi (Scf.iv 0#32 1#32 i) 1#32))) 0#32 by
    rw [hd, bit_test _ _ (Nat.mod_lt _ (by decide)) (by omega), bit_mod _ _ (by omega)]]
  rw [show BitVec.ofBool (decide (n % 4096 / 2 ^ (k.val + 1) % 2 = 0)) = IntOp.cmpi .eq
      (IntOp.andi (BitVec.ofNat 32 (n % 4096)) (Scalar.shli 2#32 (Scf.iv 0#32 1#32 k))) 0#32 by
    rw [hk2, bit_test _ _ (Nat.mod_lt _ (by decide)) (by omega)]]
  unfold atRow k0_pay4
  pointwise

/-- What a trip of a merging loop leaves in row `n`, in the order that the flag `u` names. -/
def mergedEntry (u : Bool) (e : ℕ) (x : Blk Ideal) (n : ℕ) (l : Fin 128) : EReal :=
  if decide (n / 2 ^ e % 2 = 0) == u then min (atRow x n l) (atRow x (other (2 ^ e) n) l)
  else max (atRow x n l) (atRow x (other (2 ^ e) n) l)

theorem mergedEntry_words (u : Bool) (e : ℕ) (he : e < 12) (x : Blk Ideal) (n : ℕ) (l : Fin 128) (d : BitVec 32)
    (hd : d = BitVec.ofNat 32 (2 ^ e)) (w : BitVec 1) (hw : w = BitVec.ofBool (!u)) :
    mergedEntry u e x n l
      = Scalar.select (IntOp.xori (IntOp.cmpi .eq (IntOp.andi (BitVec.ofNat 32 (n % 4096)) d) 0#32) w)
          (min (atRow x n l) (Scalar.select (IntOp.cmpi .eq (IntOp.andi (BitVec.ofNat 32 (n % 4096)) d) 0#32)
            (x (ix2 ⟨(n % 4096 + 4096 - (Scalar.subi 4096#32 d).toNat % 4096) % 4096, Nat.mod_lt _ (by decide)⟩ l))
            (x (ix2 ⟨(n % 4096 + 4096 - d.toNat % 4096) % 4096, Nat.mod_lt _ (by decide)⟩ l))))
          (max (atRow x n l) (Scalar.select (IntOp.cmpi .eq (IntOp.andi (BitVec.ofNat 32 (n % 4096)) d) 0#32)
            (x (ix2 ⟨(n % 4096 + 4096 - (Scalar.subi 4096#32 d).toNat % 4096) % 4096, Nat.mod_lt _ (by decide)⟩ l))
            (x (ix2 ⟨(n % 4096 + 4096 - d.toNat % 4096) % 4096, Nat.mod_lt _ (by decide)⟩ l)))) := by
  have hb : IntOp.cmpi .eq (IntOp.andi (BitVec.ofNat 32 (n % 4096)) d) 0#32 = BitVec.ofBool (decide (n / 2 ^ e % 2 = 0)) := by
    rw [hd, bit_test _ _ (Nat.mod_lt _ (by decide)) (by omega), bit_mod _ _ he]
  rw [partner_row x e n he l d hd, hb, hw, xor_not, pick_ofBool]
  rfl

/-- One trip of each merging loop: the order is that of the blocks of two, of four and of eight devices. -/
theorem merge_entry4 (c : Dev nD) (i : Fin k0_t4_loop.trips) (x : Blk Ideal) (n : ℕ) (l : Fin 128) :
    atRow (k0_pay7 (posWord c) i x) n l = mergedEntry (decide (c.val / 2 % 2 = 0)) (11 - i.val) x n l := by
  rw [mergedEntry_words _ _ (by omega) x n l _ (merge_words4 i) _ (pos_set c).2.1]
  unfold atRow k0_pay7
  pointwise

theorem merge_entry5 (c : Dev nD) (i : Fin k0_t5_loop.trips) (x : Blk Ideal) (n : ℕ) (l : Fin 128) :
    atRow (k0_pay10 (posWord c) i x) n l = mergedEntry (decide (c.val / 4 % 2 = 0)) (11 - i.val) x n l := by
  rw [mergedEntry_words _ _ (by omega) x n l _ (merge_words5 i) _ (pos_set c).2.2.1]
  unfold atRow k0_pay10
  pointwise

theorem merge_entry6 (c : Dev nD) (i : Fin k0_t6_loop.trips) (x : Blk Ideal) (n : ℕ) (l : Fin 128) :
    atRow (k0_pay2 (posWord c) i x) n l = mergedEntry true (11 - i.val) x n l := by
  rw [mergedEntry_words _ _ (by omega) x n l _ (merge_words6 i) _ (pos_set c).2.2.2]
  unfold atRow k0_pay2
  pointwise

/-- The block enters the buffer as it is. -/
theorem start_entry (x : Blk Ideal) (n : ℕ) (l : Fin 128) : atRow (k0_pay3 x) n l = atRow x n l := by
  unfold atRow k0_pay3
  pointwise

/-! ## Comparing with the partner -/

/-- Whether a device keeps the smaller number in exchange `s`: the lower of the two does, where the order is to ascend. -/
def keptMin (s : ℕ) (c : Dev nD) : Bool :=
  match s with
  | 0 => decide (c.val % 2 = 0) == decide (c.val / 2 % 2 = 0)
  | 1 => decide (c.val / 2 % 2 = 0) == decide (c.val / 4 % 2 = 0)
  | 2 => decide (c.val % 2 = 0) == decide (c.val / 4 % 2 = 0)
  | 3 => decide (c.val / 4 % 2 = 0) == true
  | 4 => decide (c.val / 2 % 2 = 0) == true
  | _ => decide (c.val % 2 = 0) == true

theorem kept_words {b u : Bool} {v w : BitVec 1} (hv : v = BitVec.ofBool b) (hw : w = BitVec.ofBool u) (p q : EReal) :
    Scalar.select (Scalar.xori (Scalar.xori v w) 1#1) (min p q) (max p q) = if b == u then min p q else max p q := by
  rw [← pick_ofBool, ← xor_xor_one, ← hv, ← hw]
  rfl

theorem kept_entry (s : ℕ) (c : Dev nD) (x y : Blk Ideal) (n : ℕ) (l : Fin 128) :
    atRow (kept s c x y) n l
      = if keptMin s c then min (atRow x n l) (atRow y n l) else max (atRow x n l) (atRow y n l) := by
  obtain ⟨h1, h2, h4, h8⟩ := pos_clear c
  match s with
  | 0 => refine Eq.trans ?_ (kept_words h1 h2 _ _); unfold kept k0_pay6 atRow; pointwise
  | 1 => refine Eq.trans ?_ (kept_words h2 h4 _ _); unfold kept k0_pay8 atRow; pointwise
  | 2 => refine Eq.trans ?_ (kept_words h1 h4 _ _); unfold kept k0_pay9 atRow; pointwise
  | 3 => refine Eq.trans ?_ (kept_words h4 h8 _ _); unfold kept k0_pay11 atRow; pointwise
  | 4 => refine Eq.trans ?_ (kept_words h2 h8 _ _); unfold kept k0_pay12 atRow; pointwise
  | _ + 5 => refine Eq.trans ?_ (kept_words h1 h8 _ _); unfold kept k0_pay1 atRow; pointwise

end Cert.Proof

end
-- ==== Proof.Sequence.lean ====
/-
  What the eight devices' blocks hold together. The blocks' rows of one lane, device after device, are one sequence of 2^15
  numbers. Every trip of a loop on all devices, and every exchange, is one sweep of the sorting network on that sequence; so
  after the last exchange and merge the sequence is what the whole network makes of the sequence fetched.
-/
module

public import proofs.«01_k».proof.Proof.Steps

@[expose] public section

noncomputable section

namespace Cert.Proof

open Cert.KernelIdeal Cert.KernelIdeal.Gen
open Idealize.ShloMosaic
open Idealize.ShloMosaic.TcCoe

/-- The device that holds row `n` of the whole, counted around. -/
def ownerOf (n : ℕ) : Dev nD := ⟨n / 4096 % 8, Nat.mod_lt _ (by decide)⟩

/-- The numbers of one lane, device after device. -/
def laneSeq (X : Dev nD → Blk Ideal) (l : Fin 128) (n : ℕ) : EReal := atRow (X (ownerOf n)) n l

/-! ## Trips inside the devices -/

theorem other_owner (e n : ℕ) (he : e < 12) : ownerOf (other (2 ^ e) n) = ownerOf n := by
  have h := (other_facts e n (by omega)).2.2.2
  obtain ⟨f, hf⟩ : ∃ f, 12 = e + 1 + f := ⟨11 - e, by omega⟩
  apply Fin.ext
  show other (2 ^ e) n / 4096 % 8 = n / 4096 % 8
  rw [show (4096 : ℕ) = 2 ^ 12 by norm_num, hf, pow_add, ← Nat.div_div_eq_div_mul, ← Nat.div_div_eq_div_mul, h]

/-- A trip that on every device compares rows at distance 2^e is a sweep. -/
theorem trip_sweep (e : ℕ) (he : e < 12) (up : ℕ → Bool) (X Y : Dev nD → Blk Ideal) (l : Fin 128)
    (h : ∀ n, atRow (Y (ownerOf n)) n l = mergedEntry (up n) e (X (ownerOf n)) n l) :
    laneSeq Y l = sweep (2 ^ e) up (laneSeq X l) := by
  funext n
  have ho : laneSeq X l (other (2 ^ e) n) = atRow (X (ownerOf n)) (other (2 ^ e) n) l := by
    unfold laneSeq
    rw [other_owner e n he]
  unfold sweep
  rw [ho]
  exact h n

/-- A loop whose trips are sweeps at distances 2^(q-1), …, 2, 1 is a merge. -/
theorem trips_merge (q N : ℕ) (hN : N = q) (up : ℕ → Bool) (g : Dev nD → Fin N → Blk Ideal → Blk Ideal) (l : Fin 128)
    (hg : ∀ (i : Fin N) (X : Dev nD → Blk Ideal),
      laneSeq (fun c => g c i (X c)) l = sweep (2 ^ (q - 1 - i.val)) up (laneSeq X l)) (X : Dev nD → Blk Ideal) :
    laneSeq (fun c => afterTrips (g c) N (X c)) l = merge up q (laneSeq X l) := by
  have key : ∀ j ≤ N, merge up (q - j) (laneSeq (fun c => afterTrips (g c) j (X c)) l) = merge up q (laneSeq X l) := by
    intro j
    induction j with
    | zero => intro _; rfl
    | succ j ih =>
      intro hj
      have hlt : j < N := hj
      rw [← ih (by omega), show q - j = (q - (j + 1)) + 1 by omega, merge, show q - (j + 1) = q - 1 - j by omega,
        ← hg ⟨j, hlt⟩]
      congr 2
      funext c
      exact afterTrips_succ (g c) ⟨j, hlt⟩ (X c)
  have := key N le_rfl
  rwa [show q - N = 0 by omega] at this

/-! ## Each device's own sort -/

/-- The order that the device's own sort uses is the network's. -/
theorem sort_order (k n : ℕ) (hk : k < 12) :
    (decide (n % 4096 / 2 ^ (k + 1) % 2 = 0) == decide ((ownerOf n).val % 2 = 0)) = dirAt (k + 1) n := by
  have ho : (ownerOf n).val % 2 = n / 4096 % 2 := by
    show n / 4096 % 8 % 2 = _
    omega
  unfold dirAt ascends
  rw [ho]
  by_cases h : k + 1 < 12
  · have hd : n / 2 ^ (k + 1) / 2 ^ (12 - (k + 1)) = n / 4096 := by
      rw [Nat.div_div_eq_div_mul, ← pow_add, show k + 1 + (12 - (k + 1)) = 12 by omega]
      norm_num
    rw [if_pos h, hd, bit_mod _ _ h]
    have : decide (n / 4096 % 2 = 1) = !decide (n / 4096 % 2 = 0) := by
      rw [← decide_not]; exact decide_eq_decide.2 (by omega)
    rw [this]
    cases decide (n / 2 ^ (k + 1) % 2 = 0) <;> cases decide (n / 4096 % 2 = 0) <;> rfl
  · obtain rfl : k = 11 := by omega
    rw [if_neg h, if_pos (by omega)]
    have : n % 4096 / 2 ^ (11 + 1) % 2 = 0 := by
      rw [show (2 : ℕ) ^ (11 + 1) = 4096 by norm_num]; omega
    rw [decide_eq_true this, show (2 : ℕ) ^ (11 + 1) = 4096 by norm_num]
    cases decide (n / 4096 % 2 = 0) <;> rfl

/-- Trip `k` of the devices' own sorts is level `k + 1` of the network. -/
theorem inner_merge (k : Fin k0_t1_loop.trips) (X : Dev nD → Blk Ideal) (l : Fin 128) :
    laneSeq (fun c => innerSort c k (k0_t2_loop k).trips (X c)) l
      = merge (dirAt (k.val + 1)) (k.val + 1) (laneSeq X l) := by
  have hk : k.val < 12 := lt_of_lt_of_eq k.isLt trips_t1
  refine trips_merge (k.val + 1) _ (trips_t2 k) _ (fun c i => k0_pay4 c k i) l (fun i Y => ?_) X
  rw [show k.val + 1 - 1 - i.val = k.val - i.val by omega]
  refine trip_sweep _ (by omega) _ Y _ l fun n => ?_
  rw [sort_entry, sort_order _ _ hk]
  rfl

theorem outer_network (X : Dev nD → Blk Ideal) (l : Fin 128) (k : ℕ) (hk : k ≤ 12) :
    laneSeq (fun c => outerSort c k (X c)) l = network (laneSeq X l) k := by
  induction k with
  | zero => rfl
  | succ k ih =>
    have hlt : k < k0_t1_loop.trips := lt_of_lt_of_eq (show k < 12 by omega) trips_t1.symm
    rw [network, ← ih (by omega), ← inner_merge ⟨k, hlt⟩ (fun c => outerSort c k (X c)) l]
    refine congrArg (fun Y => laneSeq Y l) (funext fun c => ?_)
    unfold outerSort
    exact afterTrips_succ (fun i => innerSort c i (k0_t2_loop i).trips) ⟨k, hlt⟩ (X c)

/-- The devices' own sorts are the first twelve levels of the network. -/
theorem local_network (X : Dev nD → Blk Ideal) (l : Fin 128) :
    laneSeq (fun c => localSort c (X c)) l = network (laneSeq X l) 12 := by
  have h := outer_network (fun c => k0_pay3 (X c)) l 12 le_rfl
  have e : laneSeq (fun c => k0_pay3 (X c)) l = laneSeq X l := by
    funext n
    exact start_entry _ _ _
  rw [e] at h
  rw [← h]
  unfold localSort
  rw [trips_t1]

/-! ## The exchanges -/

/-- The bit of the position, by its number: exchange `s` works on bit 0, 1, 0, 2, 1, 0. -/
def bitNo : ℕ → ℕ
  | 0 => 0 | 1 => 1 | 2 => 0 | 3 => 2 | 4 => 1 | _ => 0

/-- The level of the network that exchange `s` belongs to. -/
def levelOf : ℕ → ℕ
  | 0 => 13 | 1 => 14 | 2 => 14 | _ => 15

theorem bitNo_lt (s : ℕ) : bitNo s < 3 := by unfold bitNo; split <;> decide

theorem bitOf_eq (s : ℕ) : bitOf s = 2 ^ bitNo s := by
  match s with
  | 0 => rfl | 1 => rfl | 2 => rfl | 3 => rfl | 4 => rfl | _ + 5 => rfl

/-- Flipping a bit of a position adds or subtracts its weight. -/
theorem flip_bit : ∀ (b : Fin 3) (c : Fin 8),
    c.val ^^^ 2 ^ b.val = if c.val / 2 ^ b.val % 2 = 0 then c.val + 2 ^ b.val else c.val - 2 ^ b.val := by decide

/-- The element compared in exchange `s` lies in the same row of the partner's block. -/
theorem other_partner (s n : ℕ) :
    ownerOf (other (2 ^ (12 + bitNo s)) n) = partner s (ownerOf n) ∧
    other (2 ^ (12 + bitNo s)) n % 4096 = n % 4096 := by
  have hb := bitNo_lt s
  have hf := flip_bit ⟨bitNo s, hb⟩ (ownerOf n)
  have hpart : (partner s (ownerOf n)).val = (ownerOf n).val ^^^ 2 ^ bitNo s := by rw [← bitOf_eq]; rfl
  have hown : (ownerOf n).val = n / 4096 % 8 := rfl
  have hd : n / 2 ^ (12 + bitNo s) % 2 = n / 4096 % 8 / 2 ^ bitNo s % 2 := by
    rw [pow_add, ← Nat.div_div_eq_div_mul, show (2 : ℕ) ^ 12 = 4096 by norm_num]
    generalize n / 4096 = m
    rcases (show bitNo s = 0 ∨ bitNo s = 1 ∨ bitNo s = 2 by omega) with h | h | h <;> rw [h] <;> norm_num <;> omega
  simp only [Fin.val_mk] at hf
  rw [hown] at hf hpart
  unfold other
  rw [hd]
  have hw : 2 ^ (12 + bitNo s) = 4096 * 2 ^ bitNo s := by rw [pow_add]; norm_num
  have hbit : 2 ^ bitNo s = 1 ∨ 2 ^ bitNo s = 2 ∨ 2 ^ bitNo s = 4 := by
    rcases (show bitNo s = 0 ∨ bitNo s = 1 ∨ bitNo s = 2 by omega) with h | h | h <;> rw [h] <;> norm_num
  by_cases h : n / 4096 % 8 / 2 ^ bitNo s % 2 = 0
  · rw [if_pos h] at hf ⊢
    rw [hw]
    refine ⟨Fin.ext ?_, ?_⟩
    · rw [hpart, hf]
      show (n + 4096 * 2 ^ bitNo s) / 4096 % 8 = _
      rcases hbit with e | e | e <;> rw [e] at h ⊢ <;> omega
    · rcases hbit with e | e | e <;> rw [e] <;> omega
  · rw [if_neg h] at hf ⊢
    rw [hw]
    refine ⟨Fin.ext ?_, ?_⟩
    · rw [hpart, hf]
      show (n - 4096 * 2 ^ bitNo s) / 4096 % 8 = _
      rcases hbit with e | e | e <;> rw [e] at h ⊢ <;> omega
    · rcases hbit with e | e | e <;> rw [e] at h ⊢ <;> omega

/-- The order that exchange `s` uses is its level's. -/
theorem kept_order (s n : ℕ) : keptMin s (ownerOf n) = keepsMin (2 ^ (12 + bitNo s)) (dirAt (levelOf s)) n := by
  have hown : (ownerOf n).val = n / 4096 % 8 := rfl
  have f : ∀ a b : ℕ, (a = b) → decide (a = 0) = decide (b = 0) := fun a b h => by rw [h]
  unfold keepsMin dirAt ascends
  match s with
  | 0 =>
    show (decide ((ownerOf n).val % 2 = 0) == decide ((ownerOf n).val / 2 % 2 = 0))
      = (decide (n / 4096 % 2 = 0) == decide (n / 8192 % 2 = 0))
    rw [hown, f (n / 4096 % 8 % 2) (n / 4096 % 2) (by omega), f (n / 4096 % 8 / 2 % 2) (n / 8192 % 2) (by omega)]
  | 1 =>
    show (decide ((ownerOf n).val / 2 % 2 = 0) == decide ((ownerOf n).val / 4 % 2 = 0))
      = (decide (n / 8192 % 2 = 0) == decide (n / 16384 % 2 = 0))
    rw [hown, f (n / 4096 % 8 / 2 % 2) (n / 8192 % 2) (by omega), f (n / 4096 % 8 / 4 % 2) (n / 16384 % 2) (by omega)]
  | 2 =>
    show (decide ((ownerOf n).val % 2 = 0) == decide ((ownerOf n).val / 4 % 2 = 0))
      = (decide (n / 4096 % 2 = 0) == decide (n / 16384 % 2 = 0))
    rw [hown, f (n / 4096 % 8 % 2) (n / 4096 % 2) (by omega), f (n / 4096 % 8 / 4 % 2) (n / 16384 % 2) (by omega)]
  | 3 =>
    show (decide ((ownerOf n).val / 4 % 2 = 0) == true) = (decide (n / 16384 % 2 = 0) == true)
    rw [hown, f (n / 4096 % 8 / 4 % 2) (n / 16384 % 2) (by omega)]
  | 4 =>
    show (decide ((ownerOf n).val / 2 % 2 = 0) == true) = (decide (n / 8192 % 2 = 0) == true)
    rw [hown, f (n / 4096 % 8 / 2 % 2) (n / 8192 % 2) (by omega)]
  | _ + 5 =>
    show (decide ((ownerOf n).val % 2 = 0) == true) = (decide (n / 4096 % 2 = 0) == true)
    rw [hown, f (n / 4096 % 8 % 2) (n / 4096 % 2) (by omega)]

/-- An exchange on all devices is a sweep at the distance of the partners. -/
theorem kept_sweep (s : ℕ) (X : Dev nD → Blk Ideal) (l : Fin 128) :
    laneSeq (fun c => kept s c (X c) (X (partner s c))) l
      = sweep (2 ^ (12 + bitNo s)) (dirAt (levelOf s)) (laneSeq X l) := by
  funext n
  obtain ⟨h1, h2⟩ := other_partner s n
  have e : ∀ x : Blk Ideal, atRow x n l = atRow x (other (2 ^ (12 + bitNo s)) n) l := fun x => by
    unfold atRow
    congr 2
    exact Fin.ext h2.symm
  have ho : laneSeq X l (other (2 ^ (12 + bitNo s)) n) = atRow (X (partner s (ownerOf n))) n l := by
    unfold laneSeq
    rw [h1, ← e]
  unfold sweep
  rw [ho, ← kept_order]
  exact kept_entry s (ownerOf n) _ _ n l

/-! ## The merges after the exchanges with the nearest partner -/

theorem merge_order (n : ℕ) :
    decide ((ownerOf n).val / 2 % 2 = 0) = dirAt 13 n ∧ decide ((ownerOf n).val / 4 % 2 = 0) = dirAt 14 n ∧
    true = dirAt 15 n := by
  refine ⟨?_, ?_, rfl⟩
  · show decide (n / 4096 % 8 / 2 % 2 = 0) = decide (n / 8192 % 2 = 0)
    exact decide_eq_decide.2 (by omega)
  · show decide (n / 4096 % 8 / 4 % 2 = 0) = decide (n / 16384 % 2 = 0)
    exact decide_eq_decide.2 (by omega)

theorem merged_13 (X : Dev nD → Blk Ideal) (l : Fin 128) :
    laneSeq (fun c => merged 0 c (X c)) l = merge (dirAt 13) 12 (laneSeq X l) := by
  refine trips_merge 12 _ trips_t4 _ (fun c i => k0_pay7 (posWord c) i) l (fun i Y => ?_) X
  refine trip_sweep _ (by omega) _ Y _ l fun n => ?_
  rw [merge_entry4, (merge_order n).1]

theorem merged_14 (X : Dev nD → Blk Ideal) (l : Fin 128) :
    laneSeq (fun c => merged 2 c (X c)) l = merge (dirAt 14) 12 (laneSeq X l) := by
  refine trips_merge 12 _ trips_t5 _ (fun c i => k0_pay10 (posWord c) i) l (fun i Y => ?_) X
  refine trip_sweep _ (by omega) _ Y _ l fun n => ?_
  rw [merge_entry5, (merge_order n).2.1]

theorem merged_15 (X : Dev nD → Blk Ideal) (l : Fin 128) :
    laneSeq (fun c => merged 5 c (X c)) l = merge (dirAt 15) 12 (laneSeq X l) := by
  refine trips_merge 12 _ trips_t6 _ (fun c i => k0_pay2 (posWord c) i) l (fun i Y => ?_) X
  refine trip_sweep _ (by omega) _ Y _ l fun n => ?_
  rw [merge_entry6, (merge_order n).2.2]

/-! ## The whole -/

/-- After the last merge the lane holds what the network makes of the lane fetched. -/
theorem blockAt_network (X : Dev nD → Blk Ideal) (l : Fin 128) :
    laneSeq (blockAt X 6) l = network (laneSeq X l) 15 := by
  have s0 : laneSeq (blockAt X 0) l = network (laneSeq X l) 12 := local_network X l
  have s1 : laneSeq (blockAt X 1) l = network (laneSeq X l) 13 := by
    rw [network, merge, ← s0]
    exact (merged_13 _ l).trans (congrArg _ (kept_sweep 0 (blockAt X 0) l))
  have s2 : laneSeq (blockAt X 2) l = sweep (2 ^ 13) (dirAt 14) (network (laneSeq X l) 13) := by
    rw [← s1]
    exact kept_sweep 1 (blockAt X 1) l
  have s3 : laneSeq (blockAt X 3) l = network (laneSeq X l) 14 := by
    rw [network, merge, merge, ← s2]
    exact (merged_14 _ l).trans (congrArg _ (kept_sweep 2 (blockAt X 2) l))
  have s4 : laneSeq (blockAt X 4) l = sweep (2 ^ 14) (dirAt 15) (network (laneSeq X l) 14) := by
    rw [← s3]
    exact kept_sweep 3 (blockAt X 3) l
  have s5 : laneSeq (blockAt X 5) l = sweep (2 ^ 13) (dirAt 15) (laneSeq (blockAt X 4) l) :=
    kept_sweep 4 (blockAt X 4) l
  rw [network, merge, merge, merge, ← s4, ← s5]
  exact (merged_15 _ l).trans (congrArg _ (kept_sweep 5 (blockAt X 5) l))

end Cert.Proof

end
-- ==== Proof.Result.lean ====
/-
  What the arrays hold, element by element: the block fetched at grid point `t` is the argument's columns from 128 t on, and
  after the run the result array's column `j` is lane `j % 128` of the block written back at point `j / 128`.
-/
module

public import proofs.«01_k».proof.Proof.Sequence
public import proofs.«01_k».proof.Proof.Region
public import Idealize.ShloMosaic.Lib.Pipeline.ValueKit

@[expose] public section

noncomputable section

namespace Cert.Proof

open Cert.KernelIdeal Cert.KernelIdeal.Gen
open Idealize.ShloMosaic
open Idealize.ShloMosaic.TcCoe

variable {F : FTy → Type} [FloatOps F]
variable (m : (ℓ : Loc nD τ sig) → Buf (Elt F) ℓ)

/-- The blocks' places in the two arrays: block `t` lies in all rows and the columns from 128 t on. -/
theorem arg_place : ∀ t : Fin cfg0.N, win0_0.index t = ![0, t.val] := (by decide +kernel : ∀ t : Fin grid0.N, _)
theorem res_place : ∀ t : Fin cfg0.N, win0_1.index t = ![0, t.val] := (by decide +kernel : ∀ t : Fin grid0.N, _)

/-- The element of the block fetched at point `t`. -/
theorem fetchedAt_apply (c : Dev nD) (t : Fin cfg0.N) (r : Fin 4096) (l : Fin 128) (h : 128 * t.val + l.val < 1024) :
    fetchedAt m c t (ix2 r l)
      = (m ((c : Thread nD τ).loc main_arg0) : Vec F S4096x1024 .bf16) (ix2 r ⟨128 * t.val + l.val, h⟩) := by
  unfold fetchedAt
  blk_simp [arg_place]
  congr 1
  blk_ext [arg_place]

/-- What the result array of device `c` holds after the run. -/
def resultAt (c : Dev nD) : Vec F S4096x1024 .bf16 := fun i =>
  held m ((i 1).val / 128) 6 c (ix2 (i 0) ⟨(i 1).val % 128, Nat.mod_lt _ (by decide)⟩)

theorem finalAt_res (c : Dev nD) : finalAt m c 1 = resultAt m c := by
  refine (dats m 0 c).arrAt_eq_of_covers 1 _ (by decide +kernel) fun t hf y => ?_
  blk_simp [res_place]
  have e0 : ((win0_1.blk t).view.emb y 0).val = (y 0).val := by blk_simp [res_place]
  have e1 : ((win0_1.blk t).view.emb y 1).val = t.val * 128 + (y 1).val := by blk_simp [res_place]
  have h1 : (y 1).val < 128 := (y 1).isLt
  show held m t.val 6 c y = held m (((win0_1.blk t).view.emb y 1).val / 128) 6 c (ix2 ((win0_1.blk t).view.emb y 0)
    ⟨((win0_1.blk t).view.emb y 1).val % 128, _⟩)
  rw [show ((win0_1.blk t).view.emb y 1).val / 128 = t.val by omega]
  congr 1
  funext a
  match a with
  | 0 => exact Fin.ext e0.symm
  | 1 => exact Fin.ext (by show (y 1).val = ((win0_1.blk t).view.emb y 1).val % 128; omega)

end Cert.Proof

end
-- ==== Proof.Reference.lean ====
/-
  What the reference computes: every column of its argument in ascending order. Over the extended reals its comparator is
  "less than", so a column of the result lists the argument's column in another order and is sorted; and the two changes of
  format do nothing.
-/
module

public import proofs.«01_k».proof.Proof.Network
public import proofs.«01_k».proof.Proof.Gen.ReferenceIdeal.Run
public import Idealize.ShloMosaic.Lib.SortFacts
public import Idealize.ShloMosaic.Lib.Pointwise

@[expose] public section

noncomputable section

namespace Cert.Proof

open Cert.ReferenceIdeal Cert.ReferenceIdeal.Gen
open Idealize.ShloMosaic

/-- The whole array of 32768 rows and 1024 columns over the extended reals. -/
abbrev Whole : Type := FVec Ideal S32768x1024 .bf16

/-- The reference's result as a function of its argument. -/
def sortedWhole (x : Whole) : Whole :=
  truncf .bf16 (Host.sort S32768x1024 0 comparator_f32_d0 (extf .f32 x bitsLt_bf16_f32)) bitsLt_bf16_f32

/-- The comparator is "less than": nothing is unequal to itself, and zero stands for zero. -/
theorem comparator_lt (a b : EReal) : comparator_f32_d0 (F := Ideal) a b = BitVec.ofBool (decide (a < b)) := by
  have zero : ∀ x : EReal, Scalar.select (FloatOps.cmpf (F := Ideal) (φ := .f32) .oeq x (FloatOps.ofBits .f32 0x00000000#32))
      (FloatOps.ofBits (F := Ideal) .f32 0x00000000#32 : EReal) x = x := fun x => by
    show (if BitVec.ofBool (decide (x = _)) = 1 then _ else x) = x
    by_cases h : x = (FloatOps.ofBits (F := Ideal) .f32 0x00000000#32 : EReal)
    · rw [decide_eq_true h]; exact h.symm
    · rw [decide_eq_false h]; rfl
  have self : ∀ x y z : EReal, Scalar.select (FloatOps.cmpf (F := Ideal) (φ := .f32) .une x x) y z = z := fun x y z => by
    show (if BitVec.ofBool (decide (x ≠ x)) = 1 then y else z) = z
    rw [decide_eq_false (not_not.2 rfl)]; rfl
  show FloatOps.cmpfTotal (F := Ideal) (φ := .f32) .lt (Scalar.select (FloatOps.cmpf (F := Ideal) (φ := .f32) .une a a) _ (Scalar.select _ _ a))
    (Scalar.select (FloatOps.cmpf (F := Ideal) (φ := .f32) .une b b) _ (Scalar.select _ _ b)) = _
  rw [self, self, zero, zero]
  rfl

/-- The row that the reference brings to row `i` of column `j`. -/
def sourceRow (x : Whole) (j : Fin 1024) : Fin 32768 → Fin 32768 :=
  sortedFrom fun k k' => comparator_f32_d0 (F := Ideal) (x (ix2 k j)) (x (ix2 k' j)) == 1#1

theorem sourceRow_injective (x : Whole) (j : Fin 1024) : Function.Injective (sourceRow x j) := sortedFrom_injective _

theorem sortedWhole_apply (x : Whole) (i : Fin 32768) (j : Fin 1024) :
    sortedWhole x (ix2 i j) = x (ix2 (sourceRow x j i) j) := by
  have al : ∀ k : Fin 32768, Shape.Idx.along (s := S32768x1024) (ix2 i j) 0 k = ix2 k j := fun k => by
    funext a
    match a with
    | 0 => rfl
    | 1 => rfl
  have order : (fun k k' : Fin 32768 => comparator_f32_d0 (F := Ideal) (x (Shape.Idx.along (s := S32768x1024) (ix2 i j) 0 k))
        (x (Shape.Idx.along (s := S32768x1024) (ix2 i j) 0 k')) == 1#1)
      = fun k k' => comparator_f32_d0 (F := Ideal) (x (ix2 k j)) (x (ix2 k' j)) == 1#1 :=
    funext fun k => funext fun k' => congrArg₂ (fun a b => comparator_f32_d0 (F := Ideal) (x a) (x b) == 1#1) (al k) (al k')
  show (Host.sort S32768x1024 0 (comparator_f32_d0 (F := Ideal)) (fun i => (x i : EReal)) : S32768x1024.Idx → EReal) (ix2 i j) = _
  unfold Host.sort
  rw [dif_pos (by decide)]
  exact (congrArg x (al _)).trans (congrArg (fun R => x (ix2 (sortedFrom R i) j)) order)

/-- Every column of the reference's result ascends. -/
theorem sortedWhole_monotone (x : Whole) (j : Fin 1024) :
    Monotone fun i : Fin 32768 => (sortedWhole x (ix2 i j) : EReal) := by
  intro i i' hii
  rcases hii.eq_or_lt with rfl | hlt
  · exact le_rfl
  show (sortedWhole x (ix2 i j) : EReal) ≤ sortedWhole x (ix2 i' j)
  rw [sortedWhole_apply, sortedWhole_apply]
  have cmp : ∀ k k' : Fin 32768, (comparator_f32_d0 (F := Ideal) (x (ix2 k j)) (x (ix2 k' j)) == 1#1)
      = decide ((x (ix2 k j) : EReal) < x (ix2 k' j)) := fun k k' => by
    rw [comparator_lt]
    cases decide ((x (ix2 k j) : EReal) < x (ix2 k' j)) <;> rfl
  have h := sortedFrom_noInversion
    (fun k k' : Fin 32768 => comparator_f32_d0 (F := Ideal) (x (ix2 k j)) (x (ix2 k' j)) == 1#1)
    (fun k k' : Fin 32768 => comparator_f32_d0 (F := Ideal) (x (ix2 k j)) (x (ix2 k' j)) == 1#1)
    (fun a b h => by
      rw [cmp] at h ⊢
      exact decide_eq_false (not_lt.2 (of_decide_eq_true h).le))
    (fun a b h => h)
    (fun a b c h h' => by
      rw [cmp] at h h' ⊢
      exact decide_eq_false (not_lt.2 ((not_lt.1 (of_decide_eq_false h')).trans (not_lt.1 (of_decide_eq_false h)))))
    i i' hlt
  rw [cmp] at h
  exact not_lt.1 (of_decide_eq_false h)

end Cert.Proof

end
-- ==== Proof.Equation.lean ====
/-
  The equation of the two programs. The devices' blocks, laid one below another, are the reference's array; a column of it is a
  lane of a grid point's blocks, which the network sorts; and a sorted rearrangement of a column is the reference's.
-/
module

public import proofs.«01_k».proof.Defs
public import proofs.«01_k».proof.Proof.Frames
public import proofs.«01_k».proof.Proof.Result
public import proofs.«01_k».proof.Proof.Reference

@[expose] public section

noncomputable section

namespace Cert.Proof

open Cert.KernelIdeal Cert.KernelIdeal.Gen
open Idealize.ShloMosaic
open Idealize.ShloMosaic.TcCoe

/-- Device `c`'s rows of the whole array. -/
abbrev rowsOf (c : Dev nD) (x : Whole) : FVec Ideal S4096x1024 .bf16 :=
  Layout.block ⟨2, ![4096, 1024]⟩ ⟨2, ![32768, 1024]⟩ 0 8 c x

theorem rowsOf_apply (c : Dev nD) (x : Whole) (r : Fin 4096) (j : Fin 1024) (h : c.val * 4096 + r.val < 32768) :
    rowsOf c x (ix2 r j) = x (ix2 ⟨c.val * 4096 + r.val, h⟩ j) := by
  refine congrArg x (funext fun a => ?_)
  match a with
  | 0 => rfl
  | 1 => rfl

variable (m : (ℓ : Loc nD τ sig) → Buf (Elt Ideal) ℓ) (x : Whole)

/-- The sequence in lane `l` of the blocks fetched at point `t` is the whole array's column 128 t + l. -/
theorem laneSeq_fetched (hx : ∀ c : Dev nD, m ((c : Thread nD τ).loc main_arg0) = rowsOf c x)
    (t : Fin cfg0.N) (l : Fin 128) (h : 128 * t.val + l.val < 1024) (i : Fin 32768) :
    laneSeq (fun d => fetchedAt m d t) l i.val = (x (ix2 i ⟨128 * t.val + l.val, h⟩) : EReal) := by
  have hi := i.isLt
  show (fetchedAt m (ownerOf i.val) t (ix2 ⟨i.val % 4096, _⟩ l) : EReal) = _
  have hv : (ownerOf i.val).val = i.val / 4096 % 8 := rfl
  rw [fetchedAt_apply m _ t _ l h, hx, rowsOf_apply _ _ _ _ (by show (ownerOf i.val).val * 4096 + i.val % 4096 < 32768; omega)]
  congr 2
  exact Fin.ext (by show (ownerOf i.val).val * 4096 + i.val % 4096 = i.val; omega)

/-- Device `c`'s result is its rows of the sorted array. -/
theorem resultAt_eq (hx : ∀ c : Dev nD, m ((c : Thread nD τ).loc main_arg0) = rowsOf c x) (c : Dev nD) :
    resultAt m c = rowsOf c (sortedWhole x) := by
  funext y
  obtain ⟨r, j, rfl⟩ : ∃ (r : Fin 4096) (j : Fin 1024), y = ix2 r j :=
    ⟨y 0, y 1, funext fun a => match a with | 0 => rfl | 1 => rfl⟩
  have hr := r.isLt
  have hj := j.isLt
  have hc : c.val < 8 := c.isLt
  have hn : c.val * 4096 + r.val < 32768 := by omega
  let l : Fin 128 := ⟨j.val % 128, Nat.mod_lt _ (by decide)⟩
  let t : Fin cfg0.N := point (j.val / 128)
  have ht : t.val = j.val / 128 := by show j.val / 128 % 8 = j.val / 128; omega
  have hl : l.val = j.val % 128 := rfl
  have hb : 128 * t.val + l.val < 1024 := by omega
  have hcol : (⟨128 * t.val + l.val, hb⟩ : Fin 1024) = j := Fin.ext (by show 128 * t.val + l.val = j.val; omega)
  have net := network_unique (laneSeq (fun d => fetchedAt m d t) l) (fun i => (sortedWhole x (ix2 i j) : EReal)) (sourceRow x j)
    (sourceRow_injective x j) (fun i => by rw [laneSeq_fetched m x hx t l hb, hcol, sortedWhole_apply])
    (sortedWhole_monotone x j) ⟨c.val * 4096 + r.val, hn⟩
  rw [← blockAt_network] at net
  rw [rowsOf_apply c _ r j hn, ← net]
  have ho : ownerOf (c.val * 4096 + r.val) = c := Fin.ext (by show (c.val * 4096 + r.val) / 4096 % 8 = c.val; omega)
  have hr' : (⟨(c.val * 4096 + r.val) % 4096, Nat.mod_lt _ (by decide)⟩ : Fin 4096) = r :=
    Fin.ext (by show (c.val * 4096 + r.val) % 4096 = r.val; omega)
  show blockAt (fun d => fetchedAt m d t) 6 c (ix2 r l)
    = blockAt (fun d => fetchedAt m d t) 6 (ownerOf (c.val * 4096 + r.val)) (ix2 ⟨(c.val * 4096 + r.val) % 4096, _⟩ l)
  rw [ho, hr']

/-- Over the extended reals the devices' results, laid one below another, are the reference's result. -/
theorem algebraic : Cert.algebraic_KernelIdeal_ReferenceIdeal := by
  intro m g m' g' _ hx
  refine ⟨sortedWhole (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c =>
      ⟨(h.1 c 1).trans ((finalAt_res m c).trans (resultAt_eq m _ hx c)), (h.1 c 0).trans (finalAt_arg m c)⟩) (run_main m g)
  · exact (θ_run Cert.ReferenceIdeal.defs _ _).mono (fun _ h => h 0) (Cert.ReferenceIdeal.Value.run m' g')

end Cert.Proof

end
-- ==== Proof.lean ====
/-
  The certificate of the sorting kernel.
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
